-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_KernelIdeal [hPre_small_KernelIdeal : Cert.Pre_small_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_ReferenceIdeal [hPre_small_ReferenceIdeal : Cert.Pre_small_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_small_KernelIdeal [hKernelIdeal : Cert.KernelIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_small_ReferenceIdeal [hReferenceIdeal : Cert.ReferenceIdeal.Facts] [hPre_small_ReferenceIdeal : Cert.Pre_small_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_small_KernelIdeal [hKernelIdeal : Cert.KernelIdeal.Facts] [hReferenceIdeal : Cert.ReferenceIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_small_KernelIdeal : Cert.Pre_small_KernelIdeal.Facts) (hPre_small_ReferenceIdeal : Cert.Pre_small_ReferenceIdeal.Facts),
    quiescent_Kernel (hKernel := hKernel)
    ∧ quiescent_KernelIdeal (hKernelIdeal := hKernelIdeal)
    ∧ quiescent_KernelIdeal_pre_small_KernelIdeal (hKernelIdeal := hKernelIdeal) (hPre_small_KernelIdeal := hPre_small_KernelIdeal)
    ∧ quiescent_ReferenceIdeal (hReferenceIdeal := hReferenceIdeal)
    ∧ quiescent_ReferenceIdeal_pre_small_ReferenceIdeal (hReferenceIdeal := hReferenceIdeal) (hPre_small_ReferenceIdeal := hPre_small_ReferenceIdeal)
    ∧ preserves_Kernel_KernelIdeal
    ∧ algebraic_KernelIdeal_ReferenceIdeal_pre_small_KernelIdeal (hKernelIdeal := hKernelIdeal) (hReferenceIdeal := hReferenceIdeal) (hPre_small_KernelIdeal := hPre_small_KernelIdeal)
-- ==== Pre_small_KernelIdeal.lean ====
abbrev S1024x128 : Shape := ⟨2, ![1024, 128]⟩
abbrev S128x1024 : Shape := ⟨2, ![128, 1024]⟩
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  dot_S1024x128_S128x1024_S1024x1024_1_0_0_1_n_n_wf : DotDims.WF S1024x128 S128x1024 S1024x1024 [1] [0] [0] [1] [] []

variable [Facts]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def fn {F : FTy → Type} [FloatOps F] (main_arg0 : FVec F S1024x128 .bf16) (main_arg1 : FVec F S128x1024 .bf16) : IVec S_ 1 :=
  let main_v0 : FVec F S1024x1024 .f32 := (fun l r => Host.dotGeneral dot_S1024x128_S128x1024_S1024x1024_1_0_0_1_n_n none l r) main_arg0 main_arg1
  let main_v1 : FVec F S1024x1024 .f32 := Host.absf main_v0
  let main_cst : FVec F S_ .f32 := constant S_ .f32 0x40F00000#32
  let main_v2 : FVec F S1024x1024 .f32 := broadcastInDim S1024x1024 ![] bcast_S_S1024x1024 main_cst
  let main_v3 : IVec S1024x1024 1 := cmpf .ole main_v1 main_v2
  let main_c : IVec S_ 1 := constantI S_ 1 1#1
  let main_v4 : IVec S_ 1 := (fun x v => Host.reduce IntOp.andi x v reducesTo_S1024x1024_S_d0_1 h_S_) main_v3 main_c
  main_v4
-- ==== Pre_small_ReferenceIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .bf16) (main_arg1 : FVec F S1024x1024 .bf16) : IVec S_ 1 :=
  let main_v0 : FVec F S1024x1024 .f32 := (fun l r => Host.dotGeneral dot_S1024x1024_S1024x1024_S1024x1024_1_0_0_1_n_n none l r) main_arg0 main_arg1
  let main_v1 : FVec F S1024x1024 .f32 := Host.absf main_v0
  let main_cst : FVec F S_ .f32 := constant S_ .f32 0x40F00000#32
  let main_v2 : FVec F S1024x1024 .f32 := broadcastInDim S1024x1024 ![] bcast_S_S1024x1024 main_cst
  let main_v3 : IVec S1024x1024 1 := cmpf .ole main_v1 main_v2
  let main_c : IVec S_ 1 := constantI S_ 1 1#1
  let main_v4 : IVec S_ 1 := (fun x v => Host.reduce IntOp.andi x v reducesTo_S1024x1024_S_d0_1 h_S_) main_v3 main_c
  main_v4
-- ==== Kernel.lean ====
abbrev S1024x128 : Shape := ⟨2, ![1024, 128]⟩
abbrev S128x1024 : Shape := ⟨2, ![128, 1024]⟩
abbrev S1024x1024 : Shape := ⟨2, ![1024, 1024]⟩
abbrev S176x1024 : Shape := ⟨2, ![176, 1024]⟩
abbrev S160x1024 : Shape := ⟨2, ![160, 1024]⟩
abbrev S48 : Shape := ⟨1, ![48]⟩
abbrev S_ : Shape := ⟨0, ![]⟩
abbrev S128x256 : Shape := ⟨2, ![128, 256]⟩
abbrev S1024x256 : Shape := ⟨2, ![1024, 256]⟩
abbrev S176x256 : Shape := ⟨2, ![176, 256]⟩
abbrev S1 : Shape := ⟨1, ![1]⟩
abbrev S160x256 : Shape := ⟨2, ![160, 256]⟩

abbrev nBuf : Space → Nat
  | .hbm => 3
  | .vmem => 22
  | .smem => 0
  | _ => 0

abbrev bufTy : (tb : Table) → Fin (tcTables nBuf tb) → BufTy
  | .hbm, ⟨0, _⟩ => ⟨S1024x128, .bf16⟩
  | .hbm, ⟨1, _⟩ => ⟨S128x1024, .bf16⟩
  | .hbm, ⟨2, _⟩ => ⟨S1024x1024, .bf16⟩
  | .local _ .vmem, ⟨0, _⟩ => ⟨S1024x128, .bf16⟩
  | .local _ .vmem, ⟨1, _⟩ => ⟨S128x1024, .bf16⟩
  | .local _ .vmem, ⟨2, _⟩ => ⟨S1024x1024, .bf16⟩
  | .local _ .vmem, ⟨3, _⟩ => ⟨S1024x1024, .f32⟩
  | .local _ .vmem, ⟨4, _⟩ => ⟨S176x1024, .bf16⟩
  | .local _ .vmem, ⟨5, _⟩ => ⟨S176x1024, .bf16⟩
  | .local _ .vmem, ⟨6, _⟩ => ⟨S176x1024, .bf16⟩
  | .local _ .vmem, ⟨7, _⟩ => ⟨S176x1024, .bf16⟩
  | .local _ .vmem, ⟨8, _⟩ => ⟨S176x1024, .bf16⟩
  | .local _ .vmem, ⟨9, _⟩ => ⟨S176x1024, .bf16⟩
  | .local _ .vmem, ⟨10, _⟩ => ⟨S160x1024, .bf16⟩
  | .local _ .vmem, ⟨11, _⟩ => ⟨S160x1024, .bf16⟩
  | .local _ .vmem, ⟨12, _⟩ => ⟨S160x1024, .bf16⟩
  | .local _ .vmem, ⟨13, _⟩ => ⟨S176x1024, .bf16⟩
  | .local _ .vmem, ⟨14, _⟩ => ⟨S176x1024, .bf16⟩
  | .local _ .vmem, ⟨15, _⟩ => ⟨S176x1024, .bf16⟩
  | .local _ .vmem, ⟨16, _⟩ => ⟨S176x1024, .bf16⟩
  | .local _ .vmem, ⟨17, _⟩ => ⟨S176x1024, .bf16⟩
  | .local _ .vmem, ⟨18, _⟩ => ⟨S176x1024, .bf16⟩
  | .local _ .vmem, ⟨19, _⟩ => ⟨S160x1024, .bf16⟩
  | .local _ .vmem, ⟨20, _⟩ => ⟨S160x1024, .bf16⟩
  | .local _ .vmem, ⟨21, _⟩ => ⟨S160x1024, .bf16⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_10 : BitVec 32 := 1#32
  let v25 : BitVec 32 := Scalar.muli v15 c1_i32_10
  let v26 : BitVec 32 := Scalar.addi c0_i32_11 v25
  v26.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_13 : BitVec 32 := 1#32
  let v27 : BitVec 32 := Scalar.muli v17 c1_i32_13
  let v28 : BitVec 32 := Scalar.addi c0_i32_14 v27
  v28.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_16 : BitVec 32 := 1#32
  let v29 : BitVec 32 := Scalar.muli v18 c1_i32_16
  let v30 : BitVec 32 := Scalar.addi c0_i32_17 v29
  v30.toNat
def k0_off1 (d0 : Dev nD) : Fin 2 → Nat :=
  let c0_i32_28 : BitVec 32 := 0#32
  let c1_i32_26 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_6 : BitVec 32 := 1#32
  let v19 : BitVec 32 := Scalar.shrsi v12 c1_i32_6
  let v20 : BitVec 32 := Scalar.xori v12 v19
  let c1_i32_7 : BitVec 32 := 1#32
  let v21 : BitVec 32 := Scalar.andi v20 c1_i32_7
  let v45 : BitVec 32 := Scalar.subi c1_i32_26 v21
  let c176_i32_27 : BitVec 32 := 176#32
  let v46 : BitVec 32 := Scalar.muli v45 c176_i32_27
  let v47 : BitVec 32 := Scalar.addi c0_i32_28 v46
  let v48 : Index := Scalar.indexCast v47
  let c0_29 : Index := 0#32
  ![v48.toNat, 0]
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_34 : BitVec 32 := 1#32
  let v54 : BitVec 32 := Scalar.muli v15 c1_i32_34
  let v55 : BitVec 32 := Scalar.addi c0_i32_35 v54
  v55.toNat
def k0_off2 (d0 : Dev nD) : Fin 2 → Nat :=
  let c352_i32_42 : BitVec 32 := 352#32
  let c1_i32_40 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_8 : BitVec 32 := 1#32
  let v22 : BitVec 32 := Scalar.shrsi v12 c1_i32_8
  let v62 : BitVec 32 := Scalar.subi c1_i32_40 v22
  let c176_i32_41 : BitVec 32 := 176#32
  let v63 : BitVec 32 := Scalar.muli v62 c176_i32_41
  let v64 : BitVec 32 := Scalar.addi c352_i32_42 v63
  let v65 : Index := Scalar.indexCast v64
  let c0_43 : Index := 0#32
  ![v65.toNat, 0]
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_47 : BitVec 32 := 1#32
  let v71 : BitVec 32 := Scalar.muli v17 c1_i32_47
  let v72 : BitVec 32 := Scalar.addi c0_i32_48 v71
  v72.toNat
def k0_off3 (d0 : Dev nD) : Fin 2 → Nat :=
  let c704_i32_55 : BitVec 32 := 704#32
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.shrsi v2 c2_i32
  let v79 : BitVec 32 := Scalar.subi c1_i32_53 v23
  let c160_i32_54 : BitVec 32 := 160#32
  let v80 : BitVec 32 := Scalar.muli v79 c160_i32_54
  let v81 : BitVec 32 := Scalar.addi c704_i32_55 v80
  let v82 : Index := Scalar.indexCast v81
  let c0_56 : Index := 0#32
  ![v82.toNat, 0]
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_60 : BitVec 32 := 1#32
  let v88 : BitVec 32 := Scalar.muli v18 c1_i32_60
  let v89 : BitVec 32 := Scalar.addi c0_i32_61 v88
  v89.toNat
def k0_off4 (d0 : Dev nD) : Fin 2 → Nat :=
  let c0_i32_74 : BitVec 32 := 0#32
  let c1_i32_72 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_6 : BitVec 32 := 1#32
  let v19 : BitVec 32 := Scalar.shrsi v12 c1_i32_6
  let v20 : BitVec 32 := Scalar.xori v12 v19
  let c1_i32_7 : BitVec 32 := 1#32
  let v21 : BitVec 32 := Scalar.andi v20 c1_i32_7
  let v104 : BitVec 32 := Scalar.subi c1_i32_72 v21
  let c176_i32_73 : BitVec 32 := 176#32
  let v105 : BitVec 32 := Scalar.muli v104 c176_i32_73
  let v106 : BitVec 32 := Scalar.addi c0_i32_74 v105
  let v107 : Index := Scalar.indexCast v106
  let c256_75 : Index := 256#32
  ![v107.toNat, 256]
def k0_dev7 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_80 : BitVec 32 := 1#32
  let v113 : BitVec 32 := Scalar.muli v15 c1_i32_80
  let v114 : BitVec 32 := Scalar.addi c0_i32_81 v113
  v114.toNat
def k0_off5 (d0 : Dev nD) : Fin 2 → Nat :=
  let c352_i32_87 : BitVec 32 := 352#32
  let c1_i32_85 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_8 : BitVec 32 := 1#32
  let v22 : BitVec 32 := Scalar.shrsi v12 c1_i32_8
  let v121 : BitVec 32 := Scalar.subi c1_i32_85 v22
  let c176_i32_86 : BitVec 32 := 176#32
  let v122 : BitVec 32 := Scalar.muli v121 c176_i32_86
  let v123 : BitVec 32 := Scalar.addi c352_i32_87 v122
  let v124 : Index := Scalar.indexCast v123
  let c256_88 : Index := 256#32
  ![v124.toNat, 256]
def k0_dev8 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_92 : BitVec 32 := 1#32
  let v130 : BitVec 32 := Scalar.muli v17 c1_i32_92
  let v131 : BitVec 32 := Scalar.addi c0_i32_93 v130
  v131.toNat
def k0_off6 (d0 : Dev nD) : Fin 2 → Nat :=
  let c704_i32_100 : BitVec 32 := 704#32
  let c1_i32_98 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.shrsi v2 c2_i32
  let v138 : BitVec 32 := Scalar.subi c1_i32_98 v23
  let c160_i32_99 : BitVec 32 := 160#32
  let v139 : BitVec 32 := Scalar.muli v138 c160_i32_99
  let v140 : BitVec 32 := Scalar.addi c704_i32_100 v139
  let v141 : Index := Scalar.indexCast v140
  let c256_101 : Index := 256#32
  ![v141.toNat, 256]
def k0_dev9 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_105 : BitVec 32 := 1#32
  let v147 : BitVec 32 := Scalar.muli v18 c1_i32_105
  let v148 : BitVec 32 := Scalar.addi c0_i32_106 v147
  v148.toNat
def k0_off7 (d0 : Dev nD) : Fin 2 → Nat :=
  let c0_i32_119 : BitVec 32 := 0#32
  let c1_i32_117 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_6 : BitVec 32 := 1#32
  let v19 : BitVec 32 := Scalar.shrsi v12 c1_i32_6
  let v20 : BitVec 32 := Scalar.xori v12 v19
  let c1_i32_7 : BitVec 32 := 1#32
  let v21 : BitVec 32 := Scalar.andi v20 c1_i32_7
  let v163 : BitVec 32 := Scalar.subi c1_i32_117 v21
  let c176_i32_118 : BitVec 32 := 176#32
  let v164 : BitVec 32 := Scalar.muli v163 c176_i32_118
  let v165 : BitVec 32 := Scalar.addi c0_i32_119 v164
  let v166 : Index := Scalar.indexCast v165
  let c512_120 : Index := 512#32
  ![v166.toNat, 512]
def k0_dev10 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_125 : BitVec 32 := 1#32
  let v172 : BitVec 32 := Scalar.muli v15 c1_i32_125
  let v173 : BitVec 32 := Scalar.addi c0_i32_126 v172
  v173.toNat
def k0_off8 (d0 : Dev nD) : Fin 2 → Nat :=
  let c352_i32_132 : BitVec 32 := 352#32
  let c1_i32_130 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_8 : BitVec 32 := 1#32
  let v22 : BitVec 32 := Scalar.shrsi v12 c1_i32_8
  let v180 : BitVec 32 := Scalar.subi c1_i32_130 v22
  let c176_i32_131 : BitVec 32 := 176#32
  let v181 : BitVec 32 := Scalar.muli v180 c176_i32_131
  let v182 : BitVec 32 := Scalar.addi c352_i32_132 v181
  let v183 : Index := Scalar.indexCast v182
  let c512_133 : Index := 512#32
  ![v183.toNat, 512]
def k0_dev11 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_137 : BitVec 32 := 1#32
  let v189 : BitVec 32 := Scalar.muli v17 c1_i32_137
  let v190 : BitVec 32 := Scalar.addi c0_i32_138 v189
  v190.toNat
def k0_off9 (d0 : Dev nD) : Fin 2 → Nat :=
  let c704_i32_145 : BitVec 32 := 704#32
  let c1_i32_143 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.shrsi v2 c2_i32
  let v197 : BitVec 32 := Scalar.subi c1_i32_143 v23
  let c160_i32_144 : BitVec 32 := 160#32
  let v198 : BitVec 32 := Scalar.muli v197 c160_i32_144
  let v199 : BitVec 32 := Scalar.addi c704_i32_145 v198
  let v200 : Index := Scalar.indexCast v199
  let c512_146 : Index := 512#32
  ![v200.toNat, 512]
def k0_dev12 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_150 : BitVec 32 := 1#32
  let v206 : BitVec 32 := Scalar.muli v18 c1_i32_150
  let v207 : BitVec 32 := Scalar.addi c0_i32_151 v206
  v207.toNat
def k0_off10 (d0 : Dev nD) : Fin 2 → Nat :=
  let c0_i32_164 : BitVec 32 := 0#32
  let c1_i32_162 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_6 : BitVec 32 := 1#32
  let v19 : BitVec 32 := Scalar.shrsi v12 c1_i32_6
  let v20 : BitVec 32 := Scalar.xori v12 v19
  let c1_i32_7 : BitVec 32 := 1#32
  let v21 : BitVec 32 := Scalar.andi v20 c1_i32_7
  let v222 : BitVec 32 := Scalar.subi c1_i32_162 v21
  let c176_i32_163 : BitVec 32 := 176#32
  let v223 : BitVec 32 := Scalar.muli v222 c176_i32_163
  let v224 : BitVec 32 := Scalar.addi c0_i32_164 v223
  let v225 : Index := Scalar.indexCast v224
  let c768_165 : Index := 768#32
  ![v225.toNat, 768]
def k0_dev13 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_170 : BitVec 32 := 1#32
  let v231 : BitVec 32 := Scalar.muli v15 c1_i32_170
  let v232 : BitVec 32 := Scalar.addi c0_i32_171 v231
  v232.toNat
def k0_off11 (d0 : Dev nD) : Fin 2 → Nat :=
  let c352_i32_177 : BitVec 32 := 352#32
  let c1_i32_175 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_8 : BitVec 32 := 1#32
  let v22 : BitVec 32 := Scalar.shrsi v12 c1_i32_8
  let v239 : BitVec 32 := Scalar.subi c1_i32_175 v22
  let c176_i32_176 : BitVec 32 := 176#32
  let v240 : BitVec 32 := Scalar.muli v239 c176_i32_176
  let v241 : BitVec 32 := Scalar.addi c352_i32_177 v240
  let v242 : Index := Scalar.indexCast v241
  let c768_178 : Index := 768#32
  ![v242.toNat, 768]
def k0_dev14 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_182 : BitVec 32 := 1#32
  let v248 : BitVec 32 := Scalar.muli v17 c1_i32_182
  let v249 : BitVec 32 := Scalar.addi c0_i32_183 v248
  v249.toNat
def k0_off12 (d0 : Dev nD) : Fin 2 → Nat :=
  let c704_i32_190 : BitVec 32 := 704#32
  let c1_i32_188 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.shrsi v2 c2_i32
  let v256 : BitVec 32 := Scalar.subi c1_i32_188 v23
  let c160_i32_189 : BitVec 32 := 160#32
  let v257 : BitVec 32 := Scalar.muli v256 c160_i32_189
  let v258 : BitVec 32 := Scalar.addi c704_i32_190 v257
  let v259 : Index := Scalar.indexCast v258
  let c768_191 : Index := 768#32
  ![v259.toNat, 768]
def k0_dev15 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_195 : BitVec 32 := 1#32
  let v265 : BitVec 32 := Scalar.muli v18 c1_i32_195
  let v266 : BitVec 32 := Scalar.addi c0_i32_196 v265
  v266.toNat
def k0_off13 (d0 : Dev nD) : Fin 2 → Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_6 : BitVec 32 := 1#32
  let v19 : BitVec 32 := Scalar.shrsi v12 c1_i32_6
  let v20 : BitVec 32 := Scalar.xori v12 v19
  let c1_i32_7 : BitVec 32 := 1#32
  let v21 : BitVec 32 := Scalar.andi v20 c1_i32_7
  let c176_i32 : BitVec 32 := 176#32
  let v31 : BitVec 32 := Scalar.muli v21 c176_i32
  let v32 : BitVec 32 := Scalar.addi c0_i32_19 v31
  let v283 : Index := Scalar.indexCast v32
  let c0_216 : Index := 0#32
  ![v283.toNat, 0]
def k0_dev16 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_223 : BitVec 32 := 1#32
  let v292 : BitVec 32 := Scalar.muli v17 c1_i32_223
  let v293 : BitVec 32 := Scalar.addi c0_i32_224 v292
  v293.toNat
def k0_off14 (d0 : Dev nD) : Fin 2 → Nat :=
  let c352_i32 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_8 : BitVec 32 := 1#32
  let v22 : BitVec 32 := Scalar.shrsi v12 c1_i32_8
  let c176_i32_20 : BitVec 32 := 176#32
  let v33 : BitVec 32 := Scalar.muli v22 c176_i32_20
  let v34 : BitVec 32 := Scalar.addi c352_i32 v33
  let v314 : Index := Scalar.indexCast v34
  let c0_245 : Index := 0#32
  ![v314.toNat, 0]
def k0_dev17 (d0 : Dev nD) : Nat :=
  let c0_i32_252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_251 : BitVec 32 := 1#32
  let v323 : BitVec 32 := Scalar.muli v18 c1_i32_251
  let v324 : BitVec 32 := Scalar.addi c0_i32_252 v323
  v324.toNat
def k0_off15 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.shrsi v2 c2_i32
  let c160_i32 : BitVec 32 := 160#32
  let v35 : BitVec 32 := Scalar.muli v23 c160_i32
  let v36 : BitVec 32 := Scalar.addi c704_i32 v35
  let v345 : Index := Scalar.indexCast v36
  let c0_273 : Index := 0#32
  ![v345.toNat, 0]
def k0_dev18 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_279 : BitVec 32 := 1#32
  let v354 : BitVec 32 := Scalar.muli v15 c1_i32_279
  let v355 : BitVec 32 := Scalar.addi c0_i32_280 v354
  v355.toNat
def k0_off16 (d0 : Dev nD) : Fin 2 → Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_6 : BitVec 32 := 1#32
  let v19 : BitVec 32 := Scalar.shrsi v12 c1_i32_6
  let v20 : BitVec 32 := Scalar.xori v12 v19
  let c1_i32_7 : BitVec 32 := 1#32
  let v21 : BitVec 32 := Scalar.andi v20 c1_i32_7
  let c176_i32 : BitVec 32 := 176#32
  let v31 : BitVec 32 := Scalar.muli v21 c176_i32
  let v32 : BitVec 32 := Scalar.addi c0_i32_19 v31
  let v376 : Index := Scalar.indexCast v32
  let c256_301 : Index := 256#32
  ![v376.toNat, 256]
def k0_dev19 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_307 : BitVec 32 := 1#32
  let v385 : BitVec 32 := Scalar.muli v17 c1_i32_307
  let v386 : BitVec 32 := Scalar.addi c0_i32_308 v385
  v386.toNat
def k0_off17 (d0 : Dev nD) : Fin 2 → Nat :=
  let c352_i32 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_8 : BitVec 32 := 1#32
  let v22 : BitVec 32 := Scalar.shrsi v12 c1_i32_8
  let c176_i32_20 : BitVec 32 := 176#32
  let v33 : BitVec 32 := Scalar.muli v22 c176_i32_20
  let v34 : BitVec 32 := Scalar.addi c352_i32 v33
  let v407 : Index := Scalar.indexCast v34
  let c256_329 : Index := 256#32
  ![v407.toNat, 256]
def k0_dev20 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_335 : BitVec 32 := 1#32
  let v416 : BitVec 32 := Scalar.muli v18 c1_i32_335
  let v417 : BitVec 32 := Scalar.addi c0_i32_336 v416
  v417.toNat
def k0_off18 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.shrsi v2 c2_i32
  let c160_i32 : BitVec 32 := 160#32
  let v35 : BitVec 32 := Scalar.muli v23 c160_i32
  let v36 : BitVec 32 := Scalar.addi c704_i32 v35
  let v438 : Index := Scalar.indexCast v36
  let c256_357 : Index := 256#32
  ![v438.toNat, 256]
def k0_dev21 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_363 : BitVec 32 := 1#32
  let v447 : BitVec 32 := Scalar.muli v15 c1_i32_363
  let v448 : BitVec 32 := Scalar.addi c0_i32_364 v447
  v448.toNat
def k0_off19 (d0 : Dev nD) : Fin 2 → Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_6 : BitVec 32 := 1#32
  let v19 : BitVec 32 := Scalar.shrsi v12 c1_i32_6
  let v20 : BitVec 32 := Scalar.xori v12 v19
  let c1_i32_7 : BitVec 32 := 1#32
  let v21 : BitVec 32 := Scalar.andi v20 c1_i32_7
  let c176_i32 : BitVec 32 := 176#32
  let v31 : BitVec 32 := Scalar.muli v21 c176_i32
  let v32 : BitVec 32 := Scalar.addi c0_i32_19 v31
  let v469 : Index := Scalar.indexCast v32
  let c512_385 : Index := 512#32
  ![v469.toNat, 512]
def k0_dev22 (d0 : Dev nD) : Nat :=
  let c0_i32_392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_391 : BitVec 32 := 1#32
  let v478 : BitVec 32 := Scalar.muli v17 c1_i32_391
  let v479 : BitVec 32 := Scalar.addi c0_i32_392 v478
  v479.toNat
def k0_off20 (d0 : Dev nD) : Fin 2 → Nat :=
  let c352_i32 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_8 : BitVec 32 := 1#32
  let v22 : BitVec 32 := Scalar.shrsi v12 c1_i32_8
  let c176_i32_20 : BitVec 32 := 176#32
  let v33 : BitVec 32 := Scalar.muli v22 c176_i32_20
  let v34 : BitVec 32 := Scalar.addi c352_i32 v33
  let v500 : Index := Scalar.indexCast v34
  let c512_413 : Index := 512#32
  ![v500.toNat, 512]
def k0_dev23 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_419 : BitVec 32 := 1#32
  let v509 : BitVec 32 := Scalar.muli v18 c1_i32_419
  let v510 : BitVec 32 := Scalar.addi c0_i32_420 v509
  v510.toNat
def k0_off21 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.shrsi v2 c2_i32
  let c160_i32 : BitVec 32 := 160#32
  let v35 : BitVec 32 := Scalar.muli v23 c160_i32
  let v36 : BitVec 32 := Scalar.addi c704_i32 v35
  let v531 : Index := Scalar.indexCast v36
  let c512_441 : Index := 512#32
  ![v531.toNat, 512]
def k0_dev24 (d0 : Dev nD) : Nat :=
  let c0_i32_448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_447 : BitVec 32 := 1#32
  let v540 : BitVec 32 := Scalar.muli v15 c1_i32_447
  let v541 : BitVec 32 := Scalar.addi c0_i32_448 v540
  v541.toNat
def k0_off22 (d0 : Dev nD) : Fin 2 → Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_6 : BitVec 32 := 1#32
  let v19 : BitVec 32 := Scalar.shrsi v12 c1_i32_6
  let v20 : BitVec 32 := Scalar.xori v12 v19
  let c1_i32_7 : BitVec 32 := 1#32
  let v21 : BitVec 32 := Scalar.andi v20 c1_i32_7
  let c176_i32 : BitVec 32 := 176#32
  let v31 : BitVec 32 := Scalar.muli v21 c176_i32
  let v32 : BitVec 32 := Scalar.addi c0_i32_19 v31
  let v562 : Index := Scalar.indexCast v32
  let c768_469 : Index := 768#32
  ![v562.toNat, 768]
def k0_dev25 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_475 : BitVec 32 := 1#32
  let v571 : BitVec 32 := Scalar.muli v17 c1_i32_475
  let v572 : BitVec 32 := Scalar.addi c0_i32_476 v571
  v572.toNat
def k0_off23 (d0 : Dev nD) : Fin 2 → Nat :=
  let c352_i32 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_8 : BitVec 32 := 1#32
  let v22 : BitVec 32 := Scalar.shrsi v12 c1_i32_8
  let c176_i32_20 : BitVec 32 := 176#32
  let v33 : BitVec 32 := Scalar.muli v22 c176_i32_20
  let v34 : BitVec 32 := Scalar.addi c352_i32 v33
  let v593 : Index := Scalar.indexCast v34
  let c768_497 : Index := 768#32
  ![v593.toNat, 768]
def k0_dev26 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_503 : BitVec 32 := 1#32
  let v602 : BitVec 32 := Scalar.muli v18 c1_i32_503
  let v603 : BitVec 32 := Scalar.addi c0_i32_504 v602
  v603.toNat
def k0_off24 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.shrsi v2 c2_i32
  let c160_i32 : BitVec 32 := 160#32
  let v35 : BitVec 32 := Scalar.muli v23 c160_i32
  let v36 : BitVec 32 := Scalar.addi c704_i32 v35
  let v624 : Index := Scalar.indexCast v36
  let c768_525 : Index := 768#32
  ![v624.toNat, 768]
def k0_dev27 (d0 : Dev nD) : Nat :=
  let c0_i32_532 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_531 : BitVec 32 := 1#32
  let v633 : BitVec 32 := Scalar.muli v15 c1_i32_531
  let v634 : BitVec 32 := Scalar.addi c0_i32_532 v633
  v634.toNat
def k0_dev28 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_560 : BitVec 32 := 1#32
  let v664 : BitVec 32 := Scalar.muli v18 c1_i32_560
  let v665 : BitVec 32 := Scalar.addi c0_i32_561 v664
  v665.toNat
def k0_dev29 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_588 : BitVec 32 := 1#32
  let v695 : BitVec 32 := Scalar.muli v15 c1_i32_588
  let v696 : BitVec 32 := Scalar.addi c0_i32_589 v695
  v696.toNat
def k0_dev30 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_616 : BitVec 32 := 1#32
  let v726 : BitVec 32 := Scalar.muli v17 c1_i32_616
  let v727 : BitVec 32 := Scalar.addi c0_i32_617 v726
  v727.toNat
def k0_dev31 (d0 : Dev nD) : Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_644 : BitVec 32 := 1#32
  let v757 : BitVec 32 := Scalar.muli v18 c1_i32_644
  let v758 : BitVec 32 := Scalar.addi c0_i32_645 v757
  v758.toNat
def k0_dev32 (d0 : Dev nD) : Nat :=
  let c0_i32_673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_672 : BitVec 32 := 1#32
  let v788 : BitVec 32 := Scalar.muli v15 c1_i32_672
  let v789 : BitVec 32 := Scalar.addi c0_i32_673 v788
  v789.toNat
def k0_dev33 (d0 : Dev nD) : Nat :=
  let c0_i32_701 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_700 : BitVec 32 := 1#32
  let v819 : BitVec 32 := Scalar.muli v17 c1_i32_700
  let v820 : BitVec 32 := Scalar.addi c0_i32_701 v819
  v820.toNat
def k0_dev34 (d0 : Dev nD) : Nat :=
  let c0_i32_729 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_728 : BitVec 32 := 1#32
  let v850 : BitVec 32 := Scalar.muli v18 c1_i32_728
  let v851 : BitVec 32 := Scalar.addi c0_i32_729 v850
  v851.toNat
def k0_dev35 (d0 : Dev nD) : Nat :=
  let c0_i32_757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_756 : BitVec 32 := 1#32
  let v881 : BitVec 32 := Scalar.muli v15 c1_i32_756
  let v882 : BitVec 32 := Scalar.addi c0_i32_757 v881
  v882.toNat
def k0_dev36 (d0 : Dev nD) : Nat :=
  let c0_i32_785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_784 : BitVec 32 := 1#32
  let v912 : BitVec 32 := Scalar.muli v17 c1_i32_784
  let v913 : BitVec 32 := Scalar.addi c0_i32_785 v912
  v913.toNat
def k0_dev37 (d0 : Dev nD) : Nat :=
  let c0_i32_813 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_812 : BitVec 32 := 1#32
  let v943 : BitVec 32 := Scalar.muli v18 c1_i32_812
  let v944 : BitVec 32 := Scalar.addi c0_i32_813 v943
  v944.toNat
def k0_dev38 (d0 : Dev nD) : Nat :=
  let c0_i32_841 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_840 : BitVec 32 := 1#32
  let v974 : BitVec 32 := Scalar.muli v15 c1_i32_840
  let v975 : BitVec 32 := Scalar.addi c0_i32_841 v974
  v975.toNat
def k0_dev39 (d0 : Dev nD) : Nat :=
  let c0_i32_869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_868 : BitVec 32 := 1#32
  let v1005 : BitVec 32 := Scalar.muli v17 c1_i32_868
  let v1006 : BitVec 32 := Scalar.addi c0_i32_869 v1005
  v1006.toNat
def k0_off25 (d0 : Dev nD) : Fin 2 → Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_6 : BitVec 32 := 1#32
  let v19 : BitVec 32 := Scalar.shrsi v12 c1_i32_6
  let v20 : BitVec 32 := Scalar.xori v12 v19
  let c1_i32_7 : BitVec 32 := 1#32
  let v21 : BitVec 32 := Scalar.andi v20 c1_i32_7
  let c176_i32 : BitVec 32 := 176#32
  let v31 : BitVec 32 := Scalar.muli v21 c176_i32
  let v32 : BitVec 32 := Scalar.addi c0_i32_19 v31
  let c0_i32_897 : BitVec 32 := 0#32
  ![v32.toNat, 0]
def k0_dev40 (d0 : Dev nD) : Nat :=
  let c0_i32_896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_895 : BitVec 32 := 1#32
  let v1037 : BitVec 32 := Scalar.muli v15 c1_i32_895
  let v1038 : BitVec 32 := Scalar.addi c0_i32_896 v1037
  v1038.toNat
def k0_off26 (d0 : Dev nD) : Fin 2 → Nat :=
  let c352_i32 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_8 : BitVec 32 := 1#32
  let v22 : BitVec 32 := Scalar.shrsi v12 c1_i32_8
  let c176_i32_20 : BitVec 32 := 176#32
  let v33 : BitVec 32 := Scalar.muli v22 c176_i32_20
  let v34 : BitVec 32 := Scalar.addi c352_i32 v33
  let c0_i32_921 : BitVec 32 := 0#32
  ![v34.toNat, 0]
def k0_dev41 (d0 : Dev nD) : Nat :=
  let c0_i32_920 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_919 : BitVec 32 := 1#32
  let v1065 : BitVec 32 := Scalar.muli v17 c1_i32_919
  let v1066 : BitVec 32 := Scalar.addi c0_i32_920 v1065
  v1066.toNat
def k0_off27 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.shrsi v2 c2_i32
  let c160_i32 : BitVec 32 := 160#32
  let v35 : BitVec 32 := Scalar.muli v23 c160_i32
  let v36 : BitVec 32 := Scalar.addi c704_i32 v35
  let c0_i32_945 : BitVec 32 := 0#32
  ![v36.toNat, 0]
def k0_dev42 (d0 : Dev nD) : Nat :=
  let c0_i32_944 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_943 : BitVec 32 := 1#32
  let v1093 : BitVec 32 := Scalar.muli v18 c1_i32_943
  let v1094 : BitVec 32 := Scalar.addi c0_i32_944 v1093
  v1094.toNat
def k0_off28 (d0 : Dev nD) : Fin 2 → Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_6 : BitVec 32 := 1#32
  let v19 : BitVec 32 := Scalar.shrsi v12 c1_i32_6
  let v20 : BitVec 32 := Scalar.xori v12 v19
  let c1_i32_7 : BitVec 32 := 1#32
  let v21 : BitVec 32 := Scalar.andi v20 c1_i32_7
  let c176_i32 : BitVec 32 := 176#32
  let v31 : BitVec 32 := Scalar.muli v21 c176_i32
  let v32 : BitVec 32 := Scalar.addi c0_i32_19 v31
  let c256_i32_969 : BitVec 32 := 256#32
  ![v32.toNat, 256]
def k0_dev43 (d0 : Dev nD) : Nat :=
  let c0_i32_968 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_967 : BitVec 32 := 1#32
  let v1121 : BitVec 32 := Scalar.muli v15 c1_i32_967
  let v1122 : BitVec 32 := Scalar.addi c0_i32_968 v1121
  v1122.toNat
def k0_off29 (d0 : Dev nD) : Fin 2 → Nat :=
  let c352_i32 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_8 : BitVec 32 := 1#32
  let v22 : BitVec 32 := Scalar.shrsi v12 c1_i32_8
  let c176_i32_20 : BitVec 32 := 176#32
  let v33 : BitVec 32 := Scalar.muli v22 c176_i32_20
  let v34 : BitVec 32 := Scalar.addi c352_i32 v33
  let c256_i32_993 : BitVec 32 := 256#32
  ![v34.toNat, 256]
def k0_dev44 (d0 : Dev nD) : Nat :=
  let c0_i32_992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_991 : BitVec 32 := 1#32
  let v1149 : BitVec 32 := Scalar.muli v17 c1_i32_991
  let v1150 : BitVec 32 := Scalar.addi c0_i32_992 v1149
  v1150.toNat
def k0_off30 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.shrsi v2 c2_i32
  let c160_i32 : BitVec 32 := 160#32
  let v35 : BitVec 32 := Scalar.muli v23 c160_i32
  let v36 : BitVec 32 := Scalar.addi c704_i32 v35
  let c256_i32_1017 : BitVec 32 := 256#32
  ![v36.toNat, 256]
def k0_dev45 (d0 : Dev nD) : Nat :=
  let c0_i32_1016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_1015 : BitVec 32 := 1#32
  let v1177 : BitVec 32 := Scalar.muli v18 c1_i32_1015
  let v1178 : BitVec 32 := Scalar.addi c0_i32_1016 v1177
  v1178.toNat
def k0_off31 (d0 : Dev nD) : Fin 2 → Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_6 : BitVec 32 := 1#32
  let v19 : BitVec 32 := Scalar.shrsi v12 c1_i32_6
  let v20 : BitVec 32 := Scalar.xori v12 v19
  let c1_i32_7 : BitVec 32 := 1#32
  let v21 : BitVec 32 := Scalar.andi v20 c1_i32_7
  let c176_i32 : BitVec 32 := 176#32
  let v31 : BitVec 32 := Scalar.muli v21 c176_i32
  let v32 : BitVec 32 := Scalar.addi c0_i32_19 v31
  let c512_i32_1041 : BitVec 32 := 512#32
  ![v32.toNat, 512]
def k0_dev46 (d0 : Dev nD) : Nat :=
  let c0_i32_1040 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_1039 : BitVec 32 := 1#32
  let v1205 : BitVec 32 := Scalar.muli v15 c1_i32_1039
  let v1206 : BitVec 32 := Scalar.addi c0_i32_1040 v1205
  v1206.toNat
def k0_off32 (d0 : Dev nD) : Fin 2 → Nat :=
  let c352_i32 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_8 : BitVec 32 := 1#32
  let v22 : BitVec 32 := Scalar.shrsi v12 c1_i32_8
  let c176_i32_20 : BitVec 32 := 176#32
  let v33 : BitVec 32 := Scalar.muli v22 c176_i32_20
  let v34 : BitVec 32 := Scalar.addi c352_i32 v33
  let c512_i32_1065 : BitVec 32 := 512#32
  ![v34.toNat, 512]
def k0_dev47 (d0 : Dev nD) : Nat :=
  let c0_i32_1064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_1063 : BitVec 32 := 1#32
  let v1233 : BitVec 32 := Scalar.muli v17 c1_i32_1063
  let v1234 : BitVec 32 := Scalar.addi c0_i32_1064 v1233
  v1234.toNat
def k0_off33 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.shrsi v2 c2_i32
  let c160_i32 : BitVec 32 := 160#32
  let v35 : BitVec 32 := Scalar.muli v23 c160_i32
  let v36 : BitVec 32 := Scalar.addi c704_i32 v35
  let c512_i32_1089 : BitVec 32 := 512#32
  ![v36.toNat, 512]
def k0_dev48 (d0 : Dev nD) : Nat :=
  let c0_i32_1088 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_1087 : BitVec 32 := 1#32
  let v1261 : BitVec 32 := Scalar.muli v18 c1_i32_1087
  let v1262 : BitVec 32 := Scalar.addi c0_i32_1088 v1261
  v1262.toNat
def k0_off34 (d0 : Dev nD) : Fin 2 → Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_6 : BitVec 32 := 1#32
  let v19 : BitVec 32 := Scalar.shrsi v12 c1_i32_6
  let v20 : BitVec 32 := Scalar.xori v12 v19
  let c1_i32_7 : BitVec 32 := 1#32
  let v21 : BitVec 32 := Scalar.andi v20 c1_i32_7
  let c176_i32 : BitVec 32 := 176#32
  let v31 : BitVec 32 := Scalar.muli v21 c176_i32
  let v32 : BitVec 32 := Scalar.addi c0_i32_19 v31
  let c768_i32_1113 : BitVec 32 := 768#32
  ![v32.toNat, 768]
def k0_dev49 (d0 : Dev nD) : Nat :=
  let c0_i32_1112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.xori v12 c1_i32_4
  let v15 : BitVec 32 := Scalar.addi v13 v14
  let c1_i32_1111 : BitVec 32 := 1#32
  let v1289 : BitVec 32 := Scalar.muli v15 c1_i32_1111
  let v1290 : BitVec 32 := Scalar.addi c0_i32_1112 v1289
  v1290.toNat
def k0_off35 (d0 : Dev nD) : Fin 2 → Nat :=
  let c352_i32 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_8 : BitVec 32 := 1#32
  let v22 : BitVec 32 := Scalar.shrsi v12 c1_i32_8
  let c176_i32_20 : BitVec 32 := 176#32
  let v33 : BitVec 32 := Scalar.muli v22 c176_i32_20
  let v34 : BitVec 32 := Scalar.addi c352_i32 v33
  let c768_i32_1137 : BitVec 32 := 768#32
  ![v34.toNat, 768]
def k0_dev50 (d0 : Dev nD) : Nat :=
  let c0_i32_1136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v16 : BitVec 32 := Scalar.xori v12 c3_i32
  let v17 : BitVec 32 := Scalar.addi v13 v16
  let c1_i32_1135 : BitVec 32 := 1#32
  let v1317 : BitVec 32 := Scalar.muli v17 c1_i32_1135
  let v1318 : BitVec 32 := Scalar.addi c0_i32_1136 v1317
  v1318.toNat
def k0_off36 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.shrsi v2 c2_i32
  let c160_i32 : BitVec 32 := 160#32
  let v35 : BitVec 32 := Scalar.muli v23 c160_i32
  let v36 : BitVec 32 := Scalar.addi c704_i32 v35
  let c768_i32_1161 : BitVec 32 := 768#32
  ![v36.toNat, 768]
def k0_dev51 (d0 : Dev nD) : Nat :=
  let c0_i32_1160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_1159 : BitVec 32 := 1#32
  let v1345 : BitVec 32 := Scalar.muli v18 c1_i32_1159
  let v1346 : BitVec 32 := Scalar.addi c0_i32_1160 v1345
  v1346.toNat
abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Proof.Prog.lean ====
/- The kernel's body once more, written over its loop indices: the row tree `t`, the column block `j` and the
   exchange stage `s`. The printed body is this program, by unfolding. -/
module

public import proofs.«01_k».proof.Proof.Gen.KernelIdeal.Launch
public import Idealize.ShloMosaic.Lib.Tactic

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-! ## Shapes and rectangles -/

/-- Rows of half a row tree. -/
def hh : Fin 3 → ℕ
  | 0 => 176
  | 1 => 176
  | 2 => 160

/-- An exchange buffer's shape, and one column block of it. -/
abbrev SB (t : Fin 3) : Shape := ⟨2, ![hh t, 1024]⟩
abbrev SC (t : Fin 3) : Shape := ⟨2, ![hh t, 256]⟩

theorem numel_SC (t : Fin 3) : 0 < (SC t).numel := by revert t; decide
theorem casts_SC (t : Fin 3) : (SC t).ShapeCasts (SC t) := by revert t; decide

theorem inb_col (t : Fin 3) (j : Fin 4) : ∀ a, (![0, 256 * j.val] : Fin 2 → ℕ) a + (SC t).size a ≤ (SB t).size a := by
  revert t j; decide
/-- Column block `j` of an exchange buffer, of the accumulator, and of the right operand. -/
abbrev colR (t : Fin 3) (j : Fin 4) : Rect (SB t) := Rect.unit (s := SB t) ![0, 256 * j.val] (SC t).size (inb_col t j)
theorem inb_accCol (j : Fin 4) : ∀ a, (![0, 256 * j.val] : Fin 2 → ℕ) a + S1024x256.size a ≤ S1024x1024.size a := by
  revert j; decide
abbrev accColR (j : Fin 4) : Rect S1024x1024 := Rect.unit (s := S1024x1024) ![0, 256 * j.val] S1024x256.size (inb_accCol j)
theorem inb_wCol (j : Fin 4) : ∀ a, (![0, 256 * j.val] : Fin 2 → ℕ) a + S128x256.size a ≤ S128x1024.size a := by
  revert j; decide
abbrev wColR (j : Fin 4) : Rect S128x1024 := Rect.unit (s := S128x1024) ![0, 256 * j.val] S128x256.size (inb_wCol j)
abbrev xR : Rect S1024x128 := Rect.unit (s := S1024x128) ![0, 0] S1024x128.size inb_S1024x128_S1024x128_0_0

/-- Position of `(t, j)` in a stage's order. -/
def pos (t : Fin 3) (j : Fin 4) : Fin 12 := ⟨3 * j.val + t.val, by omega⟩

/-- Where a device's sent rows, its kept rows, and its kept rows of the result start. -/
def sendOff (c : Dev nD) (t : Fin 3) (j : Fin 4) : Fin 2 → ℕ :=
  (![k0_off1, k0_off2, k0_off3, k0_off4, k0_off5, k0_off6, k0_off7, k0_off8, k0_off9, k0_off10, k0_off11, k0_off12] : Fin 12 → Dev nD → Fin 2 → ℕ) (pos t j) c
def keepOff (c : Dev nD) (t : Fin 3) (j : Fin 4) : Fin 2 → ℕ :=
  (![k0_off13, k0_off14, k0_off15, k0_off16, k0_off17, k0_off18, k0_off19, k0_off20, k0_off21, k0_off22, k0_off23, k0_off24] : Fin 12 → Dev nD → Fin 2 → ℕ) (pos t j) c
def outOff (c : Dev nD) (t : Fin 3) (j : Fin 4) : Fin 2 → ℕ :=
  (![k0_off25, k0_off26, k0_off27, k0_off28, k0_off29, k0_off30, k0_off31, k0_off32, k0_off33, k0_off34, k0_off35, k0_off36] : Fin 12 → Dev nD → Fin 2 → ℕ) (pos t j) c

/-- First row of tree `t`, and of its half `b`. -/
def r0 : Fin 3 → ℕ
  | 0 => 0
  | 1 => 352
  | 2 => 704
def row (t : Fin 3) (b : Fin 2) : ℕ := r0 t + b.val * hh t

/-- The half of tree `t` that device `c` keeps. -/
def bit (c : Dev nD) (t : Fin 3) : Fin 2 :=
  (![![0, 1, 1, 0, 0, 1, 1, 0], ![0, 0, 1, 1, 0, 0, 1, 1], ![0, 0, 0, 0, 1, 1, 1, 1]] : Fin 3 → Fin 8 → Fin 2) t c
/-- The other half. -/
def flip (b : Fin 2) : Fin 2 := 1 - b

theorem sendOff_eq (c : Dev nD) (t : Fin 3) (j : Fin 4) : sendOff c t j = ![row t (flip (bit c t)), 256 * j.val] := by
  revert c t j; decide +kernel
theorem keepOff_eq (c : Dev nD) (t : Fin 3) (j : Fin 4) : keepOff c t j = ![row t (bit c t), 256 * j.val] := by
  revert c t j; decide +kernel
theorem outOff_eq (c : Dev nD) (t : Fin 3) (j : Fin 4) : outOff c t j = ![row t (bit c t), 256 * j.val] := by
  revert c t j; decide +kernel

theorem inb_blk (t : Fin 3) (b : Fin 2) (j : Fin 4) :
    ∀ a, (![row t b, 256 * j.val] : Fin 2 → ℕ) a + (SC t).size a ≤ S1024x1024.size a := by
  revert t b j; decide
theorem inb_send (c : Dev nD) (t : Fin 3) (j : Fin 4) : ∀ a, sendOff c t j a + (SC t).size a ≤ S1024x1024.size a := by
  rw [sendOff_eq]; exact inb_blk t _ j
theorem inb_keep (c : Dev nD) (t : Fin 3) (j : Fin 4) : ∀ a, keepOff c t j a + (SC t).size a ≤ S1024x1024.size a := by
  rw [keepOff_eq]; exact inb_blk t _ j
theorem inb_out (c : Dev nD) (t : Fin 3) (j : Fin 4) : ∀ a, outOff c t j a + (SC t).size a ≤ S1024x1024.size a := by
  rw [outOff_eq]; exact inb_blk t _ j

/-- Half `b` of tree `t`, column block `j`; and the printed rectangles, each such a block. -/
abbrev blkR (t : Fin 3) (b : Fin 2) (j : Fin 4) : Rect S1024x1024 :=
  Rect.unit (s := S1024x1024) ![row t b, 256 * j.val] (SC t).size (inb_blk t b j)
abbrev sendR (c : Dev nD) (t : Fin 3) (j : Fin 4) : Rect S1024x1024 :=
  Rect.unit (s := S1024x1024) (sendOff c t j) (SC t).size (inb_send c t j)
abbrev keepR (c : Dev nD) (t : Fin 3) (j : Fin 4) : Rect S1024x1024 :=
  Rect.unit (s := S1024x1024) (keepOff c t j) (SC t).size (inb_keep c t j)
abbrev outR (c : Dev nD) (t : Fin 3) (j : Fin 4) : Rect S1024x1024 :=
  Rect.unit (s := S1024x1024) (outOff c t j) (SC t).size (inb_out c t j)

/-! ## Buffers -/

abbrev xM : Memref sig .tc .vmem S1024x128 .bf16 := Memref.whole cc0_stg0_0
abbrev wM : Memref sig .tc .vmem S128x1024 .bf16 := Memref.whole cc0_stg1_0
abbrev outM : Memref sig .tc .vmem S1024x1024 .bf16 := Memref.whole cc0_stg2_0
abbrev accM : Memref sig .tc .vmem S1024x1024 .f32 := Memref.whole cc0_scratch0

/-- The send and receive buffers of tree `t` at stage `s`. -/
def sndM : (t : Fin 3) → (s : Fin 3) → Memref sig .tc .vmem (SB t) .bf16
  | 0, 0 => Memref.whole cc0_scratch1
  | 0, 1 => Memref.whole cc0_scratch2
  | 0, 2 => Memref.whole cc0_scratch3
  | 1, 0 => Memref.whole cc0_scratch4
  | 1, 1 => Memref.whole cc0_scratch5
  | 1, 2 => Memref.whole cc0_scratch6
  | 2, 0 => Memref.whole cc0_scratch7
  | 2, 1 => Memref.whole cc0_scratch8
  | 2, 2 => Memref.whole cc0_scratch9
def rcvM : (t : Fin 3) → (s : Fin 3) → Memref sig .tc .vmem (SB t) .bf16
  | 0, 0 => Memref.whole cc0_scratch10
  | 0, 1 => Memref.whole cc0_scratch11
  | 0, 2 => Memref.whole cc0_scratch12
  | 1, 0 => Memref.whole cc0_scratch13
  | 1, 1 => Memref.whole cc0_scratch14
  | 1, 2 => Memref.whole cc0_scratch15
  | 2, 0 => Memref.whole cc0_scratch16
  | 2, 1 => Memref.whole cc0_scratch17
  | 2, 2 => Memref.whole cc0_scratch18

theorem sndM_whole (t s : Fin 3) : (sndM t s).IsWhole := by
  fin_cases t <;> fin_cases s <;> exact Memref.isWhole_whole _
theorem rcvM_whole (t s : Fin 3) : (rcvM t s).IsWhole := by
  fin_cases t <;> fin_cases s <;> exact Memref.isWhole_whole _
theorem outM_whole : outM.IsWhole := Memref.isWhole_whole _

theorem packed_col (t : Fin 3) (j : Fin 4) : (colR t j).PackedRows (EltTy.packing .bf16) := by
  revert t j; decide
theorem words_col (t : Fin 3) (j : Fin 4) : (colR t j).WholeWords (EltTy.packing .bf16) := by
  revert t j; decide
theorem packed_keep (c : Dev nD) (t : Fin 3) (j : Fin 4) : (keepR c t j).PackedRows (EltTy.packing .bf16) := by
  revert c t j; decide +kernel
theorem words_out (c : Dev nD) (t : Fin 3) (j : Fin 4) : (outR c t j).WholeWords (EltTy.packing .bf16) := by
  revert c t j; decide +kernel

/-- The two ends of exchange `(t, s, j)` as device `c` sends it. -/
def srcV (c : Dev nD) (t : Fin 3) (s : Fin 4) (j : Fin 4) : Memref sig .tc .vmem (SC t) .bf16 :=
  match s with
  | 0 => (sndM t 0).slice (colR t j) (fun _ => rfl)
  | 1 => (sndM t 1).slice (colR t j) (fun _ => rfl)
  | 2 => (sndM t 2).slice (colR t j) (fun _ => rfl)
  | 3 => outM.slice (outR c t j) (fun _ => rfl)
def dstV (c : Dev nD) (t : Fin 3) (s : Fin 4) (j : Fin 4) : Memref sig .tc .vmem (SC t) .bf16 :=
  match s with
  | 0 => (rcvM t 0).slice (colR t j) (fun _ => rfl)
  | 1 => (rcvM t 1).slice (colR t j) (fun _ => rfl)
  | 2 => (rcvM t 2).slice (colR t j) (fun _ => rfl)
  | 3 => outM.slice (outR c t j) (fun _ => rfl)

theorem srcV_words (c : Dev nD) (t : Fin 3) (s : Fin 4) (j : Fin 4) : (srcV c t s j).view.WordExact := by
  match s with
  | 0 => exact (sndM_whole t 0).wordExact_slice rfl _ (words_col t j)
  | 1 => exact (sndM_whole t 1).wordExact_slice rfl _ (words_col t j)
  | 2 => exact (sndM_whole t 2).wordExact_slice rfl _ (words_col t j)
  | 3 => exact outM_whole.wordExact_slice rfl _ (words_out c t j)
theorem dstV_words (c : Dev nD) (t : Fin 3) (s : Fin 4) (j : Fin 4) : (dstV c t s j).view.WordExact := by
  match s with
  | 0 => exact (rcvM_whole t 0).wordExact_slice rfl _ (words_col t j)
  | 1 => exact (rcvM_whole t 1).wordExact_slice rfl _ (words_col t j)
  | 2 => exact (rcvM_whole t 2).wordExact_slice rfl _ (words_col t j)
  | 3 => exact outM_whole.wordExact_slice rfl _ (words_out c t j)

/-! ## Semaphores and devices -/

/-- Exchange `(t, s, j)`'s place in the semaphore arrays. -/
def place (t : Fin 3) (s j : Fin 4) : Fin 48 :=
  ⟨(match s with | 0 => 3 * t.val | 1 => 3 * t.val + 1 | 2 => 3 * t.val + 2 | 3 => 9 + t.val) * 4 + j.val, by
    revert t s j; decide⟩
theorem inb_sem (k : Fin 48) : ∀ a, (![k.val] : Fin 1 → ℕ) a + S1.size a ≤ S48.size a := by
  intro a; have := k.isLt; fin_cases a; show k.val + 1 ≤ 48; omega
def sSem (t : Fin 3) (s j : Fin 4) : DmaSem sig :=
  ((cc0_scratch19.slice (Rect.unit (s := S48) ![(place t s j).val] S1.size (inb_sem _))).squeeze S_ squeezes_S1_S_).sem
def rSem (t : Fin 3) (s j : Fin 4) : DmaSem sig :=
  ((cc0_scratch20.slice (Rect.unit (s := S48) ![(place t s j).val] S1.size (inb_sem _))).squeeze S_ squeezes_S1_S_).sem
def barS : Sem sig := (SemArray.scalar (sig.barrier 0 rfl) : Sems sig S_).sem

/-- The printed device of each exchange, in program order, and of each signal. -/
def devTab : Fin 48 → Dev nD → Dev nD := ![
  fun c => ⟨k0_dev4 c, k0_dev4_lt c⟩,
  fun c => ⟨k0_dev5 c, k0_dev5_lt c⟩,
  fun c => ⟨k0_dev6 c, k0_dev6_lt c⟩,
  fun c => ⟨k0_dev7 c, k0_dev7_lt c⟩,
  fun c => ⟨k0_dev8 c, k0_dev8_lt c⟩,
  fun c => ⟨k0_dev9 c, k0_dev9_lt c⟩,
  fun c => ⟨k0_dev10 c, k0_dev10_lt c⟩,
  fun c => ⟨k0_dev11 c, k0_dev11_lt c⟩,
  fun c => ⟨k0_dev12 c, k0_dev12_lt c⟩,
  fun c => ⟨k0_dev13 c, k0_dev13_lt c⟩,
  fun c => ⟨k0_dev14 c, k0_dev14_lt c⟩,
  fun c => ⟨k0_dev15 c, k0_dev15_lt c⟩,
  fun c => ⟨k0_dev16 c, k0_dev16_lt c⟩,
  fun c => ⟨k0_dev17 c, k0_dev17_lt c⟩,
  fun c => ⟨k0_dev18 c, k0_dev18_lt c⟩,
  fun c => ⟨k0_dev19 c, k0_dev19_lt c⟩,
  fun c => ⟨k0_dev20 c, k0_dev20_lt c⟩,
  fun c => ⟨k0_dev21 c, k0_dev21_lt c⟩,
  fun c => ⟨k0_dev22 c, k0_dev22_lt c⟩,
  fun c => ⟨k0_dev23 c, k0_dev23_lt c⟩,
  fun c => ⟨k0_dev24 c, k0_dev24_lt c⟩,
  fun c => ⟨k0_dev25 c, k0_dev25_lt c⟩,
  fun c => ⟨k0_dev26 c, k0_dev26_lt c⟩,
  fun c => ⟨k0_dev27 c, k0_dev27_lt c⟩,
  fun c => ⟨k0_dev28 c, k0_dev28_lt c⟩,
  fun c => ⟨k0_dev29 c, k0_dev29_lt c⟩,
  fun c => ⟨k0_dev30 c, k0_dev30_lt c⟩,
  fun c => ⟨k0_dev31 c, k0_dev31_lt c⟩,
  fun c => ⟨k0_dev32 c, k0_dev32_lt c⟩,
  fun c => ⟨k0_dev33 c, k0_dev33_lt c⟩,
  fun c => ⟨k0_dev34 c, k0_dev34_lt c⟩,
  fun c => ⟨k0_dev35 c, k0_dev35_lt c⟩,
  fun c => ⟨k0_dev36 c, k0_dev36_lt c⟩,
  fun c => ⟨k0_dev37 c, k0_dev37_lt c⟩,
  fun c => ⟨k0_dev38 c, k0_dev38_lt c⟩,
  fun c => ⟨k0_dev39 c, k0_dev39_lt c⟩,
  fun c => ⟨k0_dev40 c, k0_dev40_lt c⟩,
  fun c => ⟨k0_dev41 c, k0_dev41_lt c⟩,
  fun c => ⟨k0_dev42 c, k0_dev42_lt c⟩,
  fun c => ⟨k0_dev43 c, k0_dev43_lt c⟩,
  fun c => ⟨k0_dev44 c, k0_dev44_lt c⟩,
  fun c => ⟨k0_dev45 c, k0_dev45_lt c⟩,
  fun c => ⟨k0_dev46 c, k0_dev46_lt c⟩,
  fun c => ⟨k0_dev47 c, k0_dev47_lt c⟩,
  fun c => ⟨k0_dev48 c, k0_dev48_lt c⟩,
  fun c => ⟨k0_dev49 c, k0_dev49_lt c⟩,
  fun c => ⟨k0_dev50 c, k0_dev50_lt c⟩,
  fun c => ⟨k0_dev51 c, k0_dev51_lt c⟩]
def devT (c : Dev nD) (t : Fin 3) (s j : Fin 4) : Dev nD := devTab ⟨12 * s.val + 3 * j.val + t.val, by omega⟩ c
def devB (c : Dev nD) : Fin 3 → Dev nD
  | 0 => ⟨k0_dev1 c, k0_dev1_lt c⟩
  | 1 => ⟨k0_dev2 c, k0_dev2_lt c⟩
  | 2 => ⟨k0_dev3 c, k0_dev3_lt c⟩

/-- The partner of `c` along axis `a` of the cube. -/
def partner (a : Fin 3) (c : Dev nD) : Dev nD :=
  (![![1, 0, 3, 2, 5, 4, 7, 6], ![3, 2, 1, 0, 7, 6, 5, 4], ![4, 5, 6, 7, 0, 1, 2, 3]] : Fin 3 → Fin 8 → Fin 8) a c
/-- The axis of tree `t` at stage `s`. -/
def ax (t : Fin 3) (s : Fin 4) : Fin 3 := ⟨(t.val + s.val) % 3, Nat.mod_lt _ (by decide)⟩

theorem devT_eq (c : Dev nD) (t : Fin 3) (s j : Fin 4) : devT c t s j = partner (ax t s) c := by
  revert c t s j; decide +kernel
theorem devB_eq (c : Dev nD) (a : Fin 3) : devB c a = partner a c := by
  revert c a; decide +kernel
theorem partner_partner (a : Fin 3) (c : Dev nD) : partner a (partner a c) = c := by revert a c; decide
theorem bit_partner (t : Fin 3) (c : Dev nD) : bit (partner t c) t = flip (bit c t) := by revert t c; decide

/-! ## Values -/

/-- The block product a device forms, its first message, and a stage's sum, message and result. -/
def payDot (x : FVec F S1024x128 .bf16) (w : FVec F S128x256 .bf16) : FVec F S1024x256 .f32 :=
  shapeCast S1024x256 (matmul dot_S1024x128_S128x256_S1024x256_1_0_0_1_n_n none
    (shapeCast S1024x128 x shapeCasts_S1024x128_S1024x128) (shapeCast S128x256 w shapeCasts_S128x256_S128x256)
    (constant S1024x256 .f32 0x00000000#32)) shapeCasts_S1024x256_S1024x256
def pay0 (t : Fin 3) (v : FVec F (SC t) .f32) : FVec F (SC t) .bf16 :=
  shapeCast (SC t) (truncf .bf16 v bitsLt_bf16_f32) (casts_SC t)
def sumP (t : Fin 3) (v : FVec F (SC t) .f32) (r : FVec F (SC t) .bf16) : FVec F (SC t) .f32 :=
  addf v (extf .f32 r bitsLt_bf16_f32)
def payA (t : Fin 3) (v : FVec F (SC t) .f32) (r : FVec F (SC t) .bf16) : FVec F (SC t) .f32 :=
  shapeCast (SC t) (sumP t v r) (casts_SC t)
def payY (t : Fin 3) (v : FVec F (SC t) .f32) (r : FVec F (SC t) .bf16) : FVec F (SC t) .bf16 :=
  truncf .bf16 (mulf (sumP t v r) (logistic (sumP t v r))) bitsLt_bf16_f32

/-! ## The program -/

/-- The kernel's programs. -/
abbrev KP (F : FTy → Type) [FloatOps F] (α : Type) := Prog (TpuEff nD τ sig (Elt F) Λ₀ .tc) α

/-- Run `f` over a list, in order. -/
def seqL {ι : Type} (f : ι → KP F PUnit) : List ι → KP F PUnit
  | [] => pure ⟨⟩
  | x :: l => f x >>= fun _ => seqL f l

/-- A load of a rectangle. -/
def loadP {s : Shape} {e : EltTy} (m : Memref sig .tc .vmem s e) (r : Rect s) (h : 0 < r.shape.numel) :
    KP F (r.shape.Idx → Elt F e) := Prog.lift (.load m r.toLoadRect (View.loadsAt_vmem h))

/-- Send one message. -/
def sendP (c : Dev nD) (t : Fin 3) (s j : Fin 4) : KP F PUnit :=
  Prog.lift (.enqueueDma (srcV c t s j) (.remote (Dev.tc (devT c t s j)) (dstV c t s j) (.dma (sSem t s j)))
    (.dma (rSem t s j)) (srcV_words c t s j) (dstV_words c t s j) ⟨⟨rfl, Or.inl rfl⟩, trivial⟩)

/-- Await one exchange: its own message gone, then the partner's landed. -/
def awaitP (c : Dev nD) (t : Fin 3) (s j : Fin 4) : KP F PUnit :=
  Prog.lift (.waitDma2 (sSem t s j) (dstV c t s j) (srcV c t s j) (dstV_words c t s j) (srcV_words c t s j)) >>= fun _ =>
  Prog.lift (.waitDma2 (rSem t s j) (srcV c t s j) (dstV c t s j) (srcV_words c t s j) (dstV_words c t s j))

/-- One column block of the product. -/
def dotP (j : Fin 4) : KP F PUnit :=
  loadP xM xR h_S1024x128 >>= fun (vx : FVec F S1024x128 .bf16) =>
  loadP wM (wColR j) h_S128x256 >>= fun (vw : FVec F S128x256 .bf16) =>
  loadP accM (accColR j) h_S1024x256 >>= fun _ =>
  Prog.lift (.store accM (accColR j) (payDot vx vw) Finset.univ (View.stores_vmem_bits_univ h_S1024x256 rfl) (.inl rfl))

/-- Stage 0: send the half of the tree this device does not keep. -/
def st0P (c : Dev nD) (t : Fin 3) (j : Fin 4) : KP F PUnit :=
  loadP accM (sendR c t j) (numel_SC t) >>= fun (v : FVec F (SC t) .f32) =>
  loadP (sndM t 0) (colR t j) (numel_SC t) >>= fun _ =>
  Prog.lift (.store (sndM t 0) (colR t j) (pay0 t v) Finset.univ
    (View.stores_vmem (numel_SC t) ((sndM_whole t 0).storeExact_slice rfl _ (packed_col t j)) (fun _ => rfl)) (.inl rfl)) >>= fun _ =>
  sendP c t 0 j

/-- A middle stage: await the previous exchange, add what landed, send the sum, keep it. -/
def midP (s : Fin 2) (c : Dev nD) (t : Fin 3) (j : Fin 4) : KP F PUnit :=
  awaitP c t s.castSucc.castSucc j >>= fun _ =>
  loadP accM (keepR c t j) (numel_SC t) >>= fun (v : FVec F (SC t) .f32) =>
  loadP (rcvM t s.castSucc) (colR t j) (numel_SC t) >>= fun (r : FVec F (SC t) .bf16) =>
  loadP (sndM t s.succ) (colR t j) (numel_SC t) >>= fun _ =>
  Prog.lift (.store (sndM t s.succ) (colR t j) (pay0 t (sumP t v r)) Finset.univ
    (View.stores_vmem (numel_SC t) ((sndM_whole t s.succ).storeExact_slice rfl _ (packed_col t j)) (fun _ => rfl)) (.inl rfl)) >>= fun _ =>
  sendP c t s.succ.castSucc j >>= fun _ =>
  loadP accM (keepR c t j) (numel_SC t) >>= fun _ =>
  Prog.lift (.store accM (keepR c t j) (payA t v r) Finset.univ (View.stores_vmem_bits_univ (numel_SC t) rfl) (.inl rfl))

/-- Stage 3: the last sum, its activation into the result's kept rows, and those sent. -/
def st3P (c : Dev nD) (t : Fin 3) (j : Fin 4) : KP F PUnit :=
  awaitP c t 2 j >>= fun _ =>
  loadP accM (keepR c t j) (numel_SC t) >>= fun (v : FVec F (SC t) .f32) =>
  loadP (rcvM t 2) (colR t j) (numel_SC t) >>= fun (r : FVec F (SC t) .bf16) =>
  loadP outM (keepR c t j) (numel_SC t) >>= fun _ =>
  Prog.lift (.store outM (keepR c t j) (payY t v r) Finset.univ
    (View.stores_vmem (numel_SC t) (outM_whole.storeExact_slice rfl _ (packed_keep c t j)) (fun _ => rfl)) (.inl rfl)) >>= fun _ =>
  sendP c t 3 j

/-- The order of a stage's twelve steps, and of the column blocks. -/
def order : List (Fin 3 × Fin 4) :=
  [(0, 0), (1, 0), (2, 0), (0, 1), (1, 1), (2, 1), (0, 2), (1, 2), (2, 2), (0, 3), (1, 3), (2, 3)]
def trees (j : Fin 4) : List (Fin 3 × Fin 4) := [(0, j), (1, j), (2, j)]
def cols : List (Fin 4) := [0, 1, 2, 3]

/-- Signal the three partners, and await their three signals. -/
def signalP (c : Dev nD) (a : Fin 3) : KP F PUnit := semSignalWord (devB c a) barS 1#32

def mainP (c : Dev nD) : KP F PUnit :=
  seqL (signalP c) [0, 1, 2] >>= fun _ =>
  semWaitWord barS 3#32 >>= fun _ =>
  seqL (fun j => dotP j >>= fun _ => seqL (fun p => st0P c p.1 p.2) (trees j)) cols >>= fun _ =>
  seqL (fun p => midP 0 c p.1 p.2) order >>= fun _ =>
  seqL (fun p => midP 1 c p.1 p.2) order >>= fun _ =>
  seqL (fun p => st3P c p.1 p.2) order >>= fun _ =>
  seqL (fun p => awaitP c p.1 3 p.2) order

def bodyP : KP F PUnit := Prog.lift .deviceId >>= fun c => mainP c

end Cert.KernelIdeal.Ring
-- ==== Proof.Sched.lean ====
/- Contents and schedule of the exchange: what each message holds, and what each semaphore's landing hands over.

   The eight devices form a cube; `partner a` crosses axis `a`. Exchange `(t, s, j)` — row tree `t`, stage `s`,
   column block `j` — crosses axis `(t + s) % 3` and is symmetric: a device sends to its partner and receives from it.
   Barrier cell of `c`: one unit from each partner, handing over that partner's landing slots for the exchanges along its
   axis. Send cell: one transfer's credit, handing the source slice back. Receive cell: one transfer's credit from the
   partner, handing over the landing slot holding the partner's message. -/
module

public import proofs.«01_k».proof.Proof.Prog
public import Idealize.ShloMosaic.Lib.Pipeline.Launch
public import Idealize.ShloMosaic.Lib.Pipeline.Kit

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The protocol's resource algebra beside the pipeline's: duties named by `Fin 3`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Exchanges and cells -/

/-- An exchange: tree, stage, column block. -/
abbrev X : Type := Fin 3 × Fin 4 × Fin 4
/-- The axis an exchange crosses, and the device across it. -/
abbrev xax (e : X) : Fin 3 := ax e.1 e.2.1
abbrev xp (e : X) (c : Dev nD) : Dev nD := partner (xax e) c

abbrev srcX (c : Dev nD) (e : X) : Memref sig .tc .vmem (SC e.1) .bf16 := srcV c e.1 e.2.1 e.2.2
abbrev dstX (c : Dev nD) (e : X) : Memref sig .tc .vmem (SC e.1) .bf16 := dstV c e.1 e.2.1 e.2.2

/-- The scoped semaphores: of each exchange its send (`false`) and receive (`true`) semaphore. -/
def osem (k : Bool × X) : SemLoc sig :=
  if k.1 then .dma (rSem k.2.1 k.2.2.1 k.2.2.2) else .dma (sSem k.2.1 k.2.2.1 k.2.2.2)
def csem : Option (Bool × X) → SemLoc sig
  | none => .reg barS
  | some k => osem k

theorem osem_injective : Function.Injective osem := by
  have h : ∀ k k', osem k = osem k' → k = k' := by decide +kernel
  exact fun k k' => h k k'
theorem osem_ne_bar (k : Bool × X) : osem k ≠ .reg barS := by
  unfold osem; split <;> exact fun h => by cases h
theorem csem_injective : Function.Injective csem := by
  rintro (_ | k) (_ | k') h
  · rfl
  · exact absurd h.symm (osem_ne_bar k')
  · exact absurd h (osem_ne_bar k)
  · exact congrArg some (osem_injective h)

abbrev kcell (ck : Dev nD × Option (Bool × X)) : GSem nD τ sig := ((ck.1 : Thread nD τ), csem ck.2)
abbrev barCell (c : Dev nD) : GSem nD τ sig := ((c : Thread nD τ), .reg barS)
abbrev sendCell (c : Dev nD) (e : X) : GSem nD τ sig := ((c : Thread nD τ), .dma (sSem e.1 e.2.1 e.2.2))
abbrev recvCell (c : Dev nD) (e : X) : GSem nD τ sig := ((c : Thread nD τ), .dma (rSem e.1 e.2.1 e.2.2))

/-- The credit of one message of tree `t`. -/
def N (t : Fin 3) : ℕ := (srcV 0 t 0 0).view.dmaCredit
theorem N_pos (t : Fin 3) : 0 < N t := View.dmaCredit_pos _ (numel_SC t)
theorem credit_src (c : Dev nD) (e : X) : (srcX c e).view.dmaCredit = N e.1 := by
  obtain ⟨t, s, j⟩ := e; fin_cases t <;> fin_cases s <;> rfl
theorem credit_dst (c : Dev nD) (e : X) : (dstX c e).view.dmaCredit = N e.1 := by
  obtain ⟨t, s, j⟩ := e; fin_cases t <;> fin_cases s <;> rfl

attribute [irreducible] N

/-! ## Contents -/

/-- The blocks of the operands a device is given. -/
def xstg (c : Dev nD) : FVec F S1024x128 .bf16 :=
  (win0_0.blk (0 : Fin 1)).view.read (Elt F) ((s₀ m ρ).mem ((c : Thread nD τ).loc main_arg0))
def wstg (c : Dev nD) : FVec F S128x1024 .bf16 :=
  (win0_1.blk (0 : Fin 1)).view.read (Elt F) ((s₀ m ρ).mem ((c : Thread nD τ).loc main_arg1))

/-- A device's own product, by column block, and its part at half `b` of tree `t`. -/
def dotB (c : Dev nD) (j : Fin 4) : FVec F S1024x256 .f32 :=
  payDot (fun i => xstg m ρ c (xR.emb i)) (fun i => wstg m ρ c ((wColR j).emb i))
theorem inb_half (t : Fin 3) (b : Fin 2) : ∀ a, (![row t b, 0] : Fin 2 → ℕ) a + (SC t).size a ≤ S1024x256.size a := by
  revert t b; decide
abbrev halfR (t : Fin 3) (b : Fin 2) : Rect S1024x256 := Rect.unit (s := S1024x256) ![row t b, 0] (SC t).size (inb_half t b)
def dotAt (c : Dev nD) (t : Fin 3) (b : Fin 2) (j : Fin 4) : FVec F (SC t) .f32 := fun i => dotB m ρ c j ((halfR t b).emb i)

/-- The axis of tree `t` at step `n`. -/
def axN (t : Fin 3) (n : ℕ) : Fin 3 := ⟨(t.val + n) % 3, Nat.mod_lt _ (by decide)⟩

/-- After `n` exchanges: the kept rows' running sum, and the message sent next. -/
def state (t : Fin 3) (j : Fin 4) : ℕ → Dev nD → FVec F (SC t) .f32 × FVec F (SC t) .bf16
  | 0, c => (dotAt m ρ c t (bit c t) j, pay0 t (dotAt m ρ c t (flip (bit c t)) j))
  | n + 1, c =>
    let v := (state t j n c).1
    let r := (state t j n (partner (axN t n) c)).2
    (payA t v r, if n = 2 then payY t v r else pay0 t (sumP t v r))

abbrev keepC (c : Dev nD) (e : X) : FVec F (SC e.1) .f32 := (state m ρ e.1 e.2.2 e.2.1.val c).1
abbrev sent (c : Dev nD) (e : X) : FVec F (SC e.1) .bf16 := (state m ρ e.1 e.2.2 e.2.1.val c).2

/-! ## The schedule -/

abbrev own {s : Shape} {e : EltTy} (c : Dev nD) (v : Memref sig .tc .vmem s e) (A : s.Idx → Elt F e) : sProp 𝕄 :=
  owns (Ix := Unit) (Name := ℕ) (U := UU) (Lvl := ℕ) (c : Thread nD τ) v fullShare A
/-- A slice at whatever contents. -/
def anyOwn {s : Shape} {e : EltTy} (c : Dev nD) (v : Memref sig .tc .vmem s e) : sProp 𝕄 :=
  iprop(∃ A : s.Idx → Elt F e, own c v A)

instance own_storable {s : Shape} {e : EltTy} (c : Dev nD) (v : Memref sig .tc .vmem s e) (A : s.Idx → Elt F e) :
    BI.Storable (upEmb : UEmb _ 𝕄) (own (F := F) c v A) := by unfold own owns; infer_instance
instance anyOwn_storable {s : Shape} {e : EltTy} (c : Dev nD) (v : Memref sig .tc .vmem s e) :
    BI.Storable (upEmb : UEmb _ 𝕄) (anyOwn (F := F) c v) := by unfold anyOwn; infer_instance

/-- What a device's landing slots are for its partner's barrier payment. -/
def barPay (c : Dev nD) (a : Fin 3) : sProp 𝕄 :=
  bigSep (Finset.univ.filter fun e : X => xax e = a) fun e => anyOwn (xp e c) (dstX c e)
def xPay (c : Dev nD) (k : Bool × X) : sProp 𝕄 :=
  if k.1 then own c (dstX (xp k.2 c) k.2) (sent m ρ (xp k.2 c) k.2) else own c (srcX c k.2) (sent m ρ c k.2)

instance barPay_storable (c : Dev nD) (a : Fin 3) : BI.Storable (upEmb : UEmb _ 𝕄) (barPay (F := F) c a) := by
  unfold barPay; infer_instance
instance xPay_storable (c : Dev nD) (k : Bool × X) : BI.Storable (upEmb : UEmb _ 𝕄) (xPay m ρ c k) := by
  unfold xPay; split <;> infer_instance

open Classical in
/-- One round. A barrier cell has a duty of one unit per axis; a send or receive cell one duty of a message's credit. -/
def Rd : Rounds.Schedule (GSem nD τ sig) (Fin 3) 𝕄 where
  duties g r := if r = 0 ∧ g.1.2 = .tc ∧ g.2 = .reg barS then Finset.univ
    else if r = 0 ∧ g.1.2 = .tc ∧ ∃ k, osem k = g.2 then {0} else ∅
  unitless _ := False
  amount g _ _ := if h : ∃ k, osem k = g.2 then N h.choose.2.1 else 1
  payload g _ d := if h : ∃ k, osem k = g.2 then xPay m ρ g.1.1 h.choose
    else if g.2 = .reg barS then barPay g.1.1 d else iprop(emp)
  amount_pos g _ _ _ := by
    by_cases h : ∃ k, osem k = g.2
    · rw [dif_pos h]; exact N_pos _
    · rw [dif_neg h]; exact Nat.one_pos

instance Rd_payload_storable (g : GSem nD τ sig) (r : ℕ) (d : Fin 3) :
    BI.Storable (upEmb : UEmb _ 𝕄) ((Rd (F := F) m ρ).payload g r d) := by
  dsimp only [Rd]
  (repeat' split) <;> infer_instance

theorem choose_osem (k : Bool × X) (h : ∃ k', osem k' = osem k) : h.choose = k := osem_injective h.choose_spec
theorem not_osem_bar : ¬ ∃ k, osem k = .reg barS := fun ⟨k, h⟩ => osem_ne_bar k h

section
variable (c : Dev nD)

theorem duties_bar : (Rd m ρ).duties (barCell c) 0 = Finset.univ := by
  dsimp only [Rd]; exact if_pos ⟨rfl, rfl, rfl⟩
theorem duties_x (k : Bool × X) : (Rd m ρ).duties (kcell (c, some k)) 0 = {0} := by
  dsimp only [Rd]; rw [if_neg (fun h => osem_ne_bar k h.2.2)]; exact if_pos ⟨rfl, rfl, k, rfl⟩
theorem duties_later (g : GSem nD τ sig) : ∀ r, 1 ≤ r → (Rd m ρ).duties g r = ∅ :=
  fun r hr => by dsimp only [Rd]; rw [if_neg fun h => by omega, if_neg fun h => by omega]
theorem amount_bar (d : Fin 3) : (Rd m ρ).amount (barCell c) 0 d = 1 := by
  dsimp only [Rd]; exact dif_neg not_osem_bar
theorem amount_x (k : Bool × X) (d : Fin 3) : (Rd m ρ).amount (kcell (c, some k)) 0 d = N k.2.1 := by
  have h : ∃ k', osem k' = (kcell (c, some k)).2 := ⟨k, rfl⟩
  dsimp only [Rd]; exact (dif_pos h).trans (congrArg (fun k => N k.2.1) (choose_osem k h))
theorem expect_bar : (Rd m ρ).expect (barCell c) 0 = 3 := by
  unfold Schedule.expect Schedule.amountOf
  rw [duties_bar, Finset.sum_congr rfl fun d _ => amount_bar m ρ c d]; rfl
theorem expect_x (k : Bool × X) : (Rd m ρ).expect (kcell (c, some k)) 0 = N k.2.1 := by
  unfold Schedule.expect Schedule.amountOf; rw [duties_x, Finset.sum_singleton, amount_x]
theorem payload_bar (d : Fin 3) : (Rd m ρ).payload (barCell c) 0 d = barPay c d := by
  dsimp only [Rd]; rw [dif_neg not_osem_bar, if_pos rfl]
theorem payload_x (k : Bool × X) (d : Fin 3) : (Rd m ρ).payload (kcell (c, some k)) 0 d = xPay m ρ c k := by
  have h : ∃ k', osem k' = (kcell (c, some k)).2 := ⟨k, rfl⟩
  dsimp only [Rd]; exact (dif_pos h).trans (congrArg (xPay m ρ c) (choose_osem k h))

theorem rest_x (k : Bool × X) :
    bigSep ((Rd m ρ).duties (kcell (c, some k)) 0 \ ∅) (fun d => (Rd m ρ).payload (kcell (c, some k)) 0 d) = xPay m ρ c k := by
  rw [Finset.sdiff_empty, duties_x, bigSep_singleton, payload_x]
/-- All the landing slots a device will send into. -/
def slots : sProp 𝕄 := bigSep Finset.univ fun e : X => anyOwn (xp e c) (dstX c e)
theorem rest_bar :
    bigSep ((Rd m ρ).duties (barCell c) 0 \ ∅) (fun d => (Rd m ρ).payload (barCell c) 0 d) = bigSep Finset.univ fun a => barPay c a := by
  rw [Finset.sdiff_empty, duties_bar]; exact bigSep_congr fun d _ => payload_bar m ρ c d

end

/-! ## What a device owes -/

/-- What sending the exchanges of a list owes. -/
def owedL (c : Dev nD) : List X → CellTallies nD τ sig Unit
  | [] => 0
  | e :: l => tallyAt (recvCell (xp e c) e) () (N e.1) + owedL c l
def owedB (c : Dev nD) : List (Fin 3) → CellTallies nD τ sig Unit
  | [] => 0
  | a :: l => tallyAt (barCell (partner a c)) () 1 + owedB c l

/-- The exchanges of stage `s`, and all of them, in program order. -/
def stageL (s : Fin 4) : List X := order.map fun p => (p.1, s, p.2)
def allL : List X := stageL 0 ++ (stageL 1 ++ (stageL 2 ++ stageL 3))

/-- What a device owes at launch. -/
def O₀ (c : Dev nD) : CellTallies nD τ sig Unit := owedB c [0, 1, 2] + owedL c allL

def L (g : GSem nD τ sig) : Finset Unit := if g.1.2 = .tc then {()} else ∅
open Classical in
/-- Levels: staging and send cells 0, barrier cells 1, the receive cells of stage `s` at `2 + s`. -/
def lv (g : GSem nD τ sig) (_ : Unit) : ℕ :=
  if g.2 = .reg barS then 1 else if h : ∃ k, osem k = g.2 then (if h.choose.1 then 2 + h.choose.2.2.1.val else 0) else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_x (c : Dev nD) (k : Bool × X) : lv (kcell (c, some k)) () = if k.1 then 2 + k.2.2.1.val else 0 := by
  have h : ∃ k', osem k' = (kcell (c, some k)).2 := ⟨k, rfl⟩
  unfold lv
  exact (if_neg (osem_ne_bar k)).trans ((dif_pos h).trans
    (congrArg (fun k : Bool × X => if k.1 then 2 + k.2.2.1.val else 0) (choose_osem k h)))

theorem owedL_pos {c : Dev nD} {g : GSem nD τ sig} {u : Unit} {l : List X} (h : 0 < owedL c l g u) :
    ∃ e ∈ l, g = recvCell (xp e c) e := by
  induction l with
  | nil => exact absurd h (Nat.lt_irrefl 0)
  | cons e l ih =>
    unfold owedL at h
    rw [Pi.add_apply, Finsupp.add_apply, tallyAt_apply] at h
    by_cases hg : g = recvCell (xp e c) e ∧ u = ()
    · exact ⟨e, List.mem_cons_self .., hg.1⟩
    · rw [if_neg hg, Nat.zero_add] at h
      obtain ⟨e', he, h'⟩ := ih h
      exact ⟨e', List.mem_cons_of_mem _ he, h'⟩
theorem owedB_pos {c : Dev nD} {g : GSem nD τ sig} {u : Unit} {l : List (Fin 3)} (h : 0 < owedB c l g u) :
    ∃ a, g = barCell (partner a c) := by
  induction l with
  | nil => exact absurd h (Nat.lt_irrefl 0)
  | cons e l ih =>
    unfold owedB at h
    rw [Pi.add_apply, Finsupp.add_apply, tallyAt_apply] at h
    by_cases hg : g = barCell (partner e c) ∧ u = ()
    · exact ⟨e, hg.1⟩
    · rw [if_neg hg, Nat.zero_add] at h
      exact ih h

/-- A wait on a cell of level `n` while owing only receive cells of later stages. -/
theorem mayWait_L (c : Dev nD) (sm : SemLoc sig) (n : ℕ) (hn : lv ((c : Thread nD τ), sm) () ≤ n) (l : List X)
    (hl : ∀ e ∈ l, n < 2 + e.2.1.val) :
    (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨e, -, rfl⟩ := owedL_pos hg; exact Finset.mem_singleton_self _)
    (fun p hp => by rw [Finset.mem_singleton.mp hp]; exact hn)
    (fun g u hg => by
      obtain ⟨e, he, rfl⟩ := owedL_pos hg
      have := lv_x (xp e c) (true, e)
      exact lt_of_lt_of_eq (hl e he) this.symm)

/-- A staging wait, at launch or after. -/
theorem mayWait_stage (c : Dev nD) (q : DmaSem sig) (hq : lv ((c : Thread nD τ), .dma q) () = 0) (O : CellTallies nD τ sig Unit)
    (hO : O = O₀ c ∨ O = 0) : (levAts L lv : sProp 𝕄) ⊢ MayWait (c : Thread nD τ) (.dma q) () O := by
  rcases hO with rfl | rfl
  · have hp : ∀ {g : GSem nD τ sig} {u : Unit}, 0 < O₀ c g u → 0 < owedB c [0, 1, 2] g u ∨ 0 < owedL c allL g u := by
      intro g u h; unfold O₀ at h; rw [Pi.add_apply, Finsupp.add_apply] at h; omega
    refine MayOwe.of_cut (L := L) (lev := lv) 0 (fun p hp => by rw [Finset.mem_singleton.mp hp, L_tc]; exact Finset.mem_singleton_self _)
      (fun g u hg => by
        rcases hp hg with h | h
        · obtain ⟨a, rfl⟩ := owedB_pos h; exact Finset.mem_singleton_self _
        · obtain ⟨e, -, rfl⟩ := owedL_pos h; exact Finset.mem_singleton_self _)
      (fun p hp => by rw [Finset.mem_singleton.mp hp]; exact hq.le)
      (fun g u hg => by
        rcases hp hg with h | h
        · obtain ⟨a, rfl⟩ := owedB_pos h; exact lt_of_lt_of_eq Nat.one_pos (lv_bar _).symm
        · obtain ⟨e, -, rfl⟩ := owedL_pos h
          exact lt_of_lt_of_eq (by simp only [if_true]; omega) (lv_x (xp e c) (true, e)).symm)
  · rw [MayWait_zero]; iintro -; iempintro

end Cert.KernelIdeal.Ring
-- ==== Proof.Steps.lean ====
/- Rules for the program's steps: loads and stores of owned slices, a message sent, an exchange awaited. -/
module

public import proofs.«01_k».proof.Proof.Sched
public import Idealize.ShloMosaic.Lib.Pipeline.BigSepL

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs `p` to `Q`. -/
abbrev runs {α : Type} (c : Dev nD) (p : KP F α) (Q : α → sProp 𝕄) : sProp 𝕄 :=
  wp frame (wpE (defs₀ (F := F)) 𝒱₀ (c : Thread nD τ) none) Set.univ p Q

/-! ## Loads and stores -/

section Mem
variable {s : Shape} {e : EltTy} (c : Dev nD) (M : Memref sig .tc .vmem s e) {α : Type}

theorem lift_bind {β : Type} (x : TpuEff nD τ sig (Elt F) Λ₀ .tc β) (k : β → KP F α) : (Prog.lift x >>= k) = .op x k := rfl
theorem loadP_bind (r : Rect s) (h : 0 < r.shape.numel) (k : (r.shape.Idx → Elt F e) → KP F α) :
    (loadP M r h >>= k) = .op (.load M r.toLoadRect (View.loadsAt_vmem h)) k := rfl

theorem load_slice (Q : α → sProp 𝕄) (r : Rect s) (hr : ∀ a, r.stride a = 1) (h : 0 < r.shape.numel) (A : r.shape.Idx → Elt F e)
    (k : (r.shape.Idx → Elt F e) → KP F α) :
    own c (M.slice r hr) A ⊢ iprop((own c (M.slice r hr) A -∗ runs c (k A) Q) -∗ runs c (loadP M r h >>= k) Q) := by
  rw [loadP_bind]
  unfold own owns
  iintro ⟨%f, %hf, H⟩ Hk
  iapply (wp_load 𝒱₀ (c : Thread nD τ) none Set.univ (m := M) (r := r.toLoadRect) (S := (M.slice r hr).view.set)
    (by exact (View.set_slice M.view r).symm.subset)) $$ H
  iintro H
  rw [show M.view.readAt (Elt F) r.toLoadRect f = A from hf]
  iapply Hk
  iexists f
  isplitr; · ipureintro; exact hf
  iexact H

theorem load_whole (Q : α → sProp 𝕄) (r : Rect s) (h : 0 < r.shape.numel) (A : s.Idx → Elt F e) (k : (r.shape.Idx → Elt F e) → KP F α) :
    own c M A ⊢ iprop((own c M A -∗ runs c (k fun i => A (r.emb i)) Q) -∗ runs c (loadP M r h >>= k) Q) := by
  rw [loadP_bind]
  unfold own owns
  iintro ⟨%f, %hf, H⟩ Hk
  iapply (wp_load 𝒱₀ (c : Thread nD τ) none Set.univ (m := M) (r := r.toLoadRect) (S := M.view.set)
    (View.setOn_subset_set _ _)) $$ H
  iintro H
  rw [show M.view.readAt (Elt F) r.toLoadRect f = fun i => A (r.emb i) from by subst hf; rfl]
  iapply Hk
  iexists f
  isplitr; · ipureintro; exact hf
  iexact H

theorem load_any (Q : α → sProp 𝕄) (r : Rect s) (hr : ∀ a, r.stride a = 1) (h : 0 < r.shape.numel)
    (k : (r.shape.Idx → Elt F e) → KP F α) (P : KP F α) (hk : ∀ A, k A = P) :
    anyOwn c (M.slice r hr) ⊢ iprop((anyOwn c (M.slice r hr) -∗ runs c P Q) -∗ runs c (loadP M r h >>= k) Q) := by
  unfold anyOwn
  iintro ⟨%A, H⟩ Hk
  iapply (load_slice c M Q r hr h A k) $$ H
  iintro H
  rw [hk A]
  iapply Hk
  iexists A
  iexact H

theorem store_slice (Q : α → sProp 𝕄) (r : Rect s) (hr : ∀ a, r.stride a = 1) (w : r.shape.Idx → Elt F e) (hx : (M.access r).Stores Finset.univ)
    (hm : (Finset.univ : Finset r.shape.Idx) = Finset.univ ∨ ∀ a, r.stride a = 1) (k : PUnit → KP F α) :
    anyOwn c (M.slice r hr) ⊢ iprop((own c (M.slice r hr) w -∗ runs c (k ⟨⟩) Q)
      -∗ runs c (Prog.lift (.store M r w Finset.univ hx hm) >>= k) Q) := by
  rw [lift_bind]
  unfold anyOwn own owns
  iintro ⟨%A, %f, %hf, H⟩ Hk
  iapply (wp_store 𝒱₀ (c : Thread nD τ) none Set.univ (m := M) (r := r) (Mk := Finset.univ) (S := (M.slice r hr).view.set)
    (by exact (View.setOn_univ _).subset)) $$ H
  iintro H
  iapply Hk
  iexists ((M.access r).write (Elt F) f w Finset.univ)
  isplitr
  · ipureintro; exact View.read_write_univ _ _
  iexact H

theorem any_of_own (A : s.Idx → Elt F e) : own c M A ⊢ anyOwn c M := by
  unfold anyOwn; iintro H; iexists A; iexact H

end Mem

/-! ## What an exchange takes and leaves -/

/-- The cells' invariants, at names `K`, and that each has reached its round. -/
def recs (K : Dev nD × Option (Bool × X) → ℕ) : sProp 𝕄 :=
  iprop((bigSep Finset.univ fun ck : Dev nD × Option (Bool × X) => cellInv ER (Rd m ρ) (K ck) (kcell ck))
    ∗ bigSep Finset.univ fun ck : Dev nD × Option (Bool × X) => reached ER (kcell ck) 0)
instance recs_persistent (K : Dev nD × Option (Bool × X) → ℕ) : BI.Persistent (recs m ρ K) := by unfold recs; infer_instance

theorem inv_at (K : Dev nD × Option (Bool × X) → ℕ) (ck : Dev nD × Option (Bool × X)) :
    recs m ρ K ⊢ iprop(cellInv ER (Rd m ρ) (K ck) (kcell ck)) := by
  unfold recs; exact (BI.Entails.trans BI.sep_and and_elimL).trans (bigSep_elim (Finset.mem_univ ck))
theorem reached_at (K : Dev nD × Option (Bool × X) → ℕ) (ck : Dev nD × Option (Bool × X)) :
    recs m ρ K ⊢ iprop(reached ER (kcell ck) 0) := by
  unfold recs; exact (BI.Entails.trans BI.sep_and and_elimR).trans (bigSep_elim (Finset.mem_univ ck))

variable (K : Dev nD × Option (Bool × X) → ℕ) (c : Dev nD)

/-- What a device holds of an exchange from the launch; and with the partner's landing slot. -/
def Tok (e : X) : sProp 𝕄 :=
  iprop(atPos ER (kcell (c, some (false, e))) 0 ∅ 0 ∗ atPos ER (kcell (c, some (true, e))) 0 ∅ 0
    ∗ dutyTok ER (kcell (c, some (false, e))) 0 0 ∗ dutyTok ER (kcell (xp e c, some (true, e))) 0 0
    ∗ cred (tallyAt (kcell (c, some (true, e))) () (N e.1)))
def Ready (e : X) : sProp 𝕄 := iprop(Tok c e ∗ anyOwn (xp e c) (dstX c e))
/-- Once sent. -/
def Sent (e : X) : sProp 𝕄 :=
  iprop(atPos ER (kcell (c, some (false, e))) 0 ∅ 0 ∗ atPos ER (kcell (c, some (true, e))) 0 ∅ 0
    ∗ cred (tallyAt (kcell (c, some (false, e))) () (N e.1)) ∗ cred (tallyAt (kcell (c, some (true, e))) () (N e.1)))
/-- Once awaited: both cells closed. -/
def Closed (e : X) : sProp 𝕄 := iprop(semVal (kcell (c, some (false, e))) 0 ∗ semVal (kcell (c, some (true, e))) 0)

theorem rest_send (e : X) : bigSep ((Rd m ρ).duties (sendCell c e) 0 \ ∅) (fun d => (Rd m ρ).payload (sendCell c e) 0 d)
    = xPay m ρ c (false, e) := rest_x m ρ c (false, e)
theorem rest_recv (e : X) : bigSep ((Rd m ρ).duties (recvCell c e) 0 \ ∅) (fun d => (Rd m ρ).payload (recvCell c e) 0 d)
    = xPay m ρ c (true, e) := rest_x m ρ c (true, e)
theorem mem_duties (k : Bool × X) : (0 : Fin 3) ∈ (Rd m ρ).duties (kcell (c, some k)) 0 := by
  rw [duties_x]; exact Finset.mem_singleton_self _
theorem amount_dst (e : X) : (dstX c e).view.amount (.dma (rSem e.1 e.2.1 e.2.2) : SemLoc sig) = N e.1 := credit_dst c e
/-- A source slice, and a landing slot, make their payloads. -/
theorem pay_send (e : X) : own c (srcX c e) (sent m ρ c e) ⊢ (Rd m ρ).payload (sendCell c e) 0 0 :=
  Entails.of_eq (payload_x m ρ c (false, e) 0).symm
theorem pay_recv (e : X) : own (xp e c) (dstX c e) (sent m ρ c e) ⊢ (Rd m ρ).payload (recvCell (xp e c) e) 0 0 := by
  refine Entails.of_eq (Eq.symm ((payload_x m ρ (xp e c) (true, e) 0).trans ?_))
  show own (xp e c) (dstX (xp e (xp e c)) e) (sent m ρ (xp e (xp e c)) e) = _
  rw [show xp e (xp e c) = c from partner_partner _ _]
theorem own_mk {s : Shape} {e : EltTy} (c : Dev nD) (v : Memref sig .tc .vmem s e) {A : s.Idx → Elt F e}
    {f : Buf (Elt F) (v.view.loc (c : Thread nD τ))} (h : v.view.read (Elt F) f = A) :
    (v.view.loc (c : Thread nD τ) ↦[v.view.set]{fullShare} f : sProp 𝕄) ⊢ own c v A := by
  unfold own owns; iintro H; iexists f; isplitr
  · ipureintro; exact h
  iexact H
theorem xPay_send (e : X) : xPay m ρ c (false, e) = own c (srcX c e) (sent m ρ c e) := rfl
theorem xPay_recv (e : X) : xPay m ρ c (true, e) = own c (dstX (xp e c) e) (sent m ρ (xp e c) e) := rfl

/-- The transfer, to `n = xp e c`. -/
theorem send_at (e : X) (n : Dev nD) (hn : n = xp e c)
    {hsc : (dstX c e : Memref sig (Dev.tc n : Thread nD τ).2.kind .vmem (SC e.1) .bf16).view.ref.isScScratch = false}
    {hsrc : (srcX c e).view.WordExact} {hdst : (dstX c e).view.WordExact}
    {hsem : DmaTarget.Typed .vmem (.dma (rSem e.1 e.2.1 e.2.2)) (.remote (Dev.tc n : Thread nD τ) (dstX c e) (.dma (sSem e.1 e.2.1 e.2.2)) hsc)}
    {α : Type} {Q : α → sProp 𝕄} {k : PUnit → KP F α}
    (l : List X) (W : Waits sig Unit) :
    iprop(recs m ρ K ∗ Ready c e ∗ own c (srcX c e) (sent m ρ c e) ∗ owes (c : Thread nD τ) (owedL c (e :: l)) W)
      ⊢ iprop((Sent c e ∗ owes (c : Thread nD τ) (owedL c l) W -∗ runs c (k ⟨⟩) Q)
        -∗ runs c (.op (.enqueueDma (srcX c e) (.remote (Dev.tc n : Thread nD τ) (dstX c e) (.dma (sSem e.1 e.2.1 e.2.2)) hsc)
            (.dma (rSem e.1 e.2.1 e.2.2)) hsrc hdst hsem) k) Q) := by
  subst hn
  unfold Ready Tok anyOwn own owns Sent
  iintro ⟨#HR, ⟨⟨HaS, HaR, HtS, HtR, HcR⟩, %A, %fd, %hfd, Hd⟩, ⟨%fs, %hfs, Hs⟩, HO⟩ Hk
  iapply (Rounds.wp_send_pointsTo 𝒱₀ ER (Rd m ρ) (c : Thread nD τ) none (c' := (xp e c : Thread nD τ)) (src := srcX c e) (dst := dstX c e)
    (sS := .dma (sSem e.1 e.2.1 e.2.2)) (sem := .dma (rSem e.1 e.2.1 e.2.2))
    (κ₁ := K (c, some (false, e))) (κ₂ := K (xp e c, some (true, e)))
    (r₁ := 0) (r₂ := 0) (d₁ := 0) (d₂ := 0) (fs := fs) (fd := fd)
    (mem_duties m ρ c (false, e)) (mem_duties m ρ (xp e c) (true, e))
    () () (N e.1) (amount_dst c e) (amount_x m ρ c (false, e) 0) (amount_x m ρ (xp e c) (true, e) 0) (owedL c l)
    (add_comm _ _) (W := W) ((own_mk c (srcX c e) hfs).trans (pay_send m ρ c e))
    ((own_mk (xp e c) (dstX c e) ((View.read_write_univ _ _).trans hfs)).trans (pay_recv m ρ c e))) $$ [Hs Hd HO HtS HtR]
  · isplitr; · iapply (inv_at m ρ K (c, some (false, e))); iexact HR
    isplitr; · iapply (inv_at m ρ K (xp e c, some (true, e))); iexact HR
    isplitl [Hs]; · iexact Hs
    isplitl [Hd]; · iexact Hd
    isplitl [HO]; · iexact HO
    isplitl [HtS]; · iexact HtS
    isplitr; · iapply (reached_at m ρ K (c, some (false, e))); iexact HR
    isplitl [HtR]; · iexact HtR
    iapply (reached_at m ρ K (xp e c, some (true, e))); iexact HR
  iintro ⟨HcS, HO⟩
  iapply Hk
  isplitr [HO]
  · isplitl [HaS]; · iexact HaS
    isplitl [HaR]; · iexact HaR
    isplitl [HcS]; · iexact HcS
    iexact HcR
  iexact HO

theorem send_rule (t : Fin 3) (s j : Fin 4) {α : Type} (Q : α → sProp 𝕄) (k : PUnit → KP F α) (l : List X) (W : Waits sig Unit) :
    iprop(recs m ρ K ∗ Ready c (t, s, j) ∗ own c (srcV c t s j) (sent m ρ c (t, s, j)) ∗ owes (c : Thread nD τ) (owedL c ((t, s, j) :: l)) W)
      ⊢ iprop((Sent c (t, s, j) ∗ owes (c : Thread nD τ) (owedL c l) W -∗ runs c (k ⟨⟩) Q) -∗ runs c (sendP c t s j >>= k) Q) :=
  send_at m ρ K c (t, s, j) (devT c t s j) (devT_eq c t s j) l W

/-- An exchange awaited: the source slice back, the landing slot with the partner's message, both cells closed. -/
theorem await_rule (t : Fin 3) (s j : Fin 4) {α : Type} (Q : α → sProp 𝕄) (k : PUnit → KP F α) (l : List X) (W : Waits sig Unit)
    (hl : ∀ e ∈ l, s.val < e.2.1.val) :
    iprop(recs m ρ K ∗ levAts L lv ∗ Sent c (t, s, j) ∗ owes (c : Thread nD τ) (owedL c l) W)
      ⊢ iprop(((Closed c (t, s, j) ∗ xPay m ρ c (false, (t, s, j)) ∗ xPay m ρ c (true, (t, s, j)))
            ∗ (∃ W', owes (c : Thread nD τ) (owedL c l) W') -∗ runs c (k ⟨⟩) Q)
        -∗ runs c (awaitP c t s j >>= k) Q) := by
  rw [show (awaitP c t s j >>= k : KP F α) = .op (.waitDma2 (sSem t s j) (dstV c t s j) (srcV c t s j) (dstV_words c t s j) (srcV_words c t s j))
    fun _ => .op (.waitDma2 (rSem t s j) (srcV c t s j) (dstV c t s j) (srcV_words c t s j) (dstV_words c t s j)) k from rfl]
  unfold Sent Closed
  iintro ⟨#HR, #Hlev, ⟨HaS, HaR, HcS, HcR⟩, HO⟩ Hk
  iapply (Rounds.wp_wait_rest_token 𝒱₀ ER (Rd m ρ) (c : Thread nD τ) none (κ := K (c, some (false, (t, s, j))))
      (wpE_waitDma2_eq 𝒱₀ (c : Thread nD τ) none Set.univ) (Set.mem_univ _) () (O := owedL c l) (W := W) (R := 0) (m := 0) (T := ∅)
      (by
        rw [Nat.zero_add, show ((c : Thread nD τ), SemLoc.dma (sSem t s j)) = kcell (c, some (false, (t, s, j))) from rfl, expect_x]
        exact credit_src c (t, s, j))) $$ [HcS HO HaS]
  · isplitr; · iapply (inv_at m ρ K (c, some (false, (t, s, j)))); iexact HR
    isplitl [HcS]; · rw [credit_src c (t, s, j)]; iexact HcS
    isplitl [HO]; · iexact HO
    isplitr
    · iapply (mayWait_L c _ 0 (lv_x c (false, (t, s, j))).le l (fun e he => by omega)); iexact Hlev
    iexact HaS
  iintro ⟨HO, HaS, -, Hp⟩
  ihave HpS := (Entails.of_eq (rest_send m ρ c (t, s, j))) $$ Hp
  iapply (Rounds.wp_wait_rest_token 𝒱₀ ER (Rd m ρ) (c : Thread nD τ) none (κ := K (c, some (true, (t, s, j))))
      (wpE_waitDma2_eq 𝒱₀ (c : Thread nD τ) none Set.univ) (Set.mem_univ _) () (O := owedL c l) (R := 0) (m := 0) (T := ∅)
      (by
        rw [Nat.zero_add, show ((c : Thread nD τ), SemLoc.dma (rSem t s j)) = kcell (c, some (true, (t, s, j))) from rfl, expect_x]
        exact credit_dst c (t, s, j))) $$ [HcR HO HaR]
  · isplitr; · iapply (inv_at m ρ K (c, some (true, (t, s, j)))); iexact HR
    isplitl [HcR]; · rw [credit_dst c (t, s, j)]; iexact HcR
    isplitl [HO]; · iexact HO
    isplitr
    · iapply (mayWait_L c _ (2 + s.val) (lv_x c (true, (t, s, j))).le l (fun e he => by have := hl e he; omega)); iexact Hlev
    iexact HaR
  iintro ⟨HO, HaR, -, Hp⟩
  ihave HpR := (Entails.of_eq (rest_recv m ρ c (t, s, j))) $$ Hp
  imod (Rounds.cell_close ER (Rd m ρ) (Set.mem_univ (K (c, some (false, (t, s, j))))) (fun h => h) (R := 0 + 1)
    (duties_later m ρ (kcell (c, some (false, (t, s, j)))))) $$ [HaS] with HzS
  · isplitr; · iapply (inv_at m ρ K (c, some (false, (t, s, j)))); iexact HR
    iexact HaS
  imod (Rounds.cell_close ER (Rd m ρ) (Set.mem_univ (K (c, some (true, (t, s, j))))) (fun h => h) (R := 0 + 1)
    (duties_later m ρ (kcell (c, some (true, (t, s, j)))))) $$ [HaR] with HzR
  · isplitr; · iapply (inv_at m ρ K (c, some (true, (t, s, j)))); iexact HR
    iexact HaR
  iapply Hk
  isplitr [HO]
  · isplitl [HzS HzR]
    · isplitl [HzS] <;> iassumption
    isplitl [HpS] <;> iassumption
  iexists _
  iexact HO

/-! ## Loops -/

/-- A loop over a list: `R` is what is threaded, indexed by what is left; `A` becomes `B` at each step. -/
theorem seq_rule {ι : Type} (f : ι → KP F PUnit) (R : List ι → sProp 𝕄) (A B : ι → sProp 𝕄)
    (h : ∀ x l {α : Type} (k : PUnit → KP F α) (Q : α → sProp 𝕄),
      iprop(R (x :: l) ∗ A x) ⊢ iprop((R l ∗ B x -∗ runs c (k ⟨⟩) Q) -∗ runs c (f x >>= k) Q))
    (l : List ι) {α : Type} (k : PUnit → KP F α) (Q : α → sProp 𝕄) :
    iprop(R l ∗ bigSepL l A) ⊢ iprop((R [] ∗ bigSepL l B -∗ runs c (k ⟨⟩) Q) -∗ runs c (seqL f l >>= k) Q) := by
  induction l generalizing α with
  | nil =>
    rw [show (seqL f [] >>= k : KP F α) = k ⟨⟩ from rfl]
    iintro H Hk; iapply Hk; iexact H
  | cons x l ih =>
    rw [show (seqL f (x :: l) >>= k : KP F α) = f x >>= fun _ => (seqL f l >>= k) from Prog.bind_assoc _ _ _, bigSepL_cons', bigSepL_cons']
    iintro ⟨HR, HA, Hl⟩ Hk
    iapply (h x l _ Q) $$ [HR HA]
    · isplitl [HR] <;> iassumption
    iintro ⟨HR, HB⟩
    iapply (ih k Q) $$ [HR Hl]
    · isplitl [HR] <;> iassumption
    iintro ⟨HR, Hl⟩
    iapply Hk
    isplitl [HR]; · iexact HR
    isplitl [HB] <;> iassumption

end Cert.KernelIdeal.Ring
-- ==== Proof.Stages.lean ====
/- Each stage's step, and the loops over them. -/
module

public import proofs.«01_k».proof.Proof.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Bool × X) → ℕ) (c : Dev nD)

/-! ## Slices and contents, stage by stage -/

abbrev sndS (t s : Fin 3) (j : Fin 4) : Memref sig .tc .vmem (SC t) .bf16 := (sndM t s).slice (colR t j) (fun _ => rfl)
abbrev rcvS (t s : Fin 3) (j : Fin 4) : Memref sig .tc .vmem (SC t) .bf16 := (rcvM t s).slice (colR t j) (fun _ => rfl)
abbrev accKeep (t : Fin 3) (j : Fin 4) : Memref sig .tc .vmem (SC t) .f32 := accM.slice (keepR c t j) (fun _ => rfl)
abbrev accSend (t : Fin 3) (j : Fin 4) : Memref sig .tc .vmem (SC t) .f32 := accM.slice (sendR c t j) (fun _ => rfl)
abbrev outKeep (t : Fin 3) (j : Fin 4) : Memref sig .tc .vmem (SC t) .bf16 := outM.slice (keepR c t j) (fun _ => rfl)

theorem srcV_eq (t s : Fin 3) (j : Fin 4) : srcV c t s.castSucc j = sndS t s j := by fin_cases s <;> rfl
theorem dstV_eq (t s : Fin 3) (j : Fin 4) : dstV c t s.castSucc j = rcvS t s j := by fin_cases s <;> rfl
theorem srcV_last (t : Fin 3) (j : Fin 4) : srcV c t 3 j = outKeep c t j :=
  Memref.slice_unit_congr outM ((outOff_eq c t j).trans (keepOff_eq c t j).symm) _ _ (fun _ => rfl) (fun _ => rfl)

theorem keep_succ (t s : Fin 3) (j : Fin 4) :
    keepC m ρ c (t, s.succ, j) = payA t (keepC m ρ c (t, s.castSucc, j)) (sent m ρ (xp (t, s.castSucc, j) c) (t, s.castSucc, j)) := rfl
theorem sent_succ (t : Fin 3) (s : Fin 2) (j : Fin 4) :
    sent m ρ c (t, s.castSucc.succ, j)
      = pay0 t (sumP t (keepC m ρ c (t, s.castSucc.castSucc, j)) (sent m ρ (xp (t, s.castSucc.castSucc, j) c) (t, s.castSucc.castSucc, j))) := by
  fin_cases s <;> rfl
theorem sent_last (t : Fin 3) (j : Fin 4) :
    sent m ρ c (t, 3, j) = payY t (keepC m ρ c (t, 2, j)) (sent m ρ (xp (t, 2, j) c) (t, 2, j)) := rfl

/-! ## What is threaded -/

/-- The records, the levels, and what is still owed. -/
def Thr (l : List X) : sProp 𝕄 := iprop(recs m ρ K ∗ levAts L lv ∗ ∃ W, owes (c : Thread nD τ) (owedL c l) W)

/-- An exchange over: cells closed, source slice back, landing slot written. -/
def Over (e : X) : sProp 𝕄 := iprop(Closed c e ∗ xPay m ρ c (false, e) ∗ xPay m ρ c (true, e))

theorem thr_send (t : Fin 3) (s j : Fin 4) {α : Type} (Q : α → sProp 𝕄) (k : PUnit → KP F α) (l : List X) :
    iprop(Thr m ρ K c ((t, s, j) :: l) ∗ Ready c (t, s, j) ∗ own c (srcV c t s j) (sent m ρ c (t, s, j)))
      ⊢ iprop((Thr m ρ K c l ∗ Sent c (t, s, j) -∗ runs c (k ⟨⟩) Q) -∗ runs c (sendP c t s j >>= k) Q) := by
  unfold Thr
  iintro ⟨⟨#HR, #HL, %W, HO⟩, HA, HS⟩ Hk
  iapply (send_rule m ρ K c t s j Q k l W) $$ [HO HA HS]
  · isplitr; · iexact HR
    isplitl [HA]; · iexact HA
    isplitl [HS] <;> iassumption
  iintro ⟨HM, HO⟩
  iapply Hk
  isplitl [HO]
  · isplitr; · iexact HR
    isplitr; · iexact HL
    iexists W; iexact HO
  iexact HM

theorem thr_await (t : Fin 3) (s j : Fin 4) {α : Type} (Q : α → sProp 𝕄) (k : PUnit → KP F α) (l : List X) (hl : ∀ e ∈ l, s.val < e.2.1.val) :
    iprop(Thr m ρ K c l ∗ Sent c (t, s, j))
      ⊢ iprop((Thr m ρ K c l ∗ Over m ρ c (t, s, j) -∗ runs c (k ⟨⟩) Q) -∗ runs c (awaitP c t s j >>= k) Q) := by
  unfold Thr
  iintro ⟨⟨#HR, #HL, %W, HO⟩, HM⟩ Hk
  iapply (await_rule m ρ K c t s j Q k l W hl) $$ [HO HM]
  · isplitr; · iexact HR
    isplitr; · iexact HL
    isplitl [HM] <;> iassumption
  iintro ⟨HM, HO⟩
  iapply Hk
  isplitl [HO]
  · isplitr; · iexact HR
    isplitr; · iexact HL
    iexact HO
  unfold Over; iexact HM

/-! ## Stage 0 -/

def A0 (t : Fin 3) (j : Fin 4) : sProp 𝕄 :=
  iprop(Ready c (t, 0, j) ∗ anyOwn c (sndS t 0 j) ∗ own c (accSend c t j) (dotAt m ρ c t (flip (bit c t)) j))
def B0 (t : Fin 3) (j : Fin 4) : sProp 𝕄 :=
  iprop(Sent c (t, 0, j) ∗ own c (accSend c t j) (dotAt m ρ c t (flip (bit c t)) j))

theorem st0_rule (t : Fin 3) (j : Fin 4) {α : Type} (Q : α → sProp 𝕄) (k : PUnit → KP F α) (l : List X) :
    iprop(Thr m ρ K c ((t, 0, j) :: l) ∗ A0 m ρ c t j)
      ⊢ iprop((Thr m ρ K c l ∗ B0 m ρ c t j -∗ runs c (k ⟨⟩) Q) -∗ runs c (st0P c t j >>= k) Q) := by
  unfold st0P A0 B0
  simp only [bind_assoc]
  iintro ⟨HT, HA, HS, HK⟩ Hk
  iapply (load_slice c accM Q (sendR c t j) (fun _ => rfl) (numel_SC t) _ _) $$ HK
  iintro HK
  iapply (load_any c (sndM t 0) Q (colR t j) (fun _ => rfl) (numel_SC t) _ _ (fun _ => rfl)) $$ HS
  iintro HS
  iapply (store_slice c (sndM t 0) Q (colR t j) (fun _ => rfl) (pay0 t (dotAt m ρ c t (flip (bit c t)) j)) _ _ _) $$ HS
  iintro HS
  iapply (thr_send m ρ K c t 0 j Q k l) $$ [HT HA HS]
  · isplitl [HT]; · iexact HT
    isplitl [HA]; · iexact HA
    iexact HS
  iintro ⟨HT, HM⟩
  iapply Hk
  isplitl [HT]; · iexact HT
  isplitl [HM] <;> iassumption

/-! ## The middle stages -/

def A1 (s : Fin 2) (t : Fin 3) (j : Fin 4) : sProp 𝕄 :=
  iprop(Sent c (t, s.castSucc.castSucc, j) ∗ Ready c (t, s.castSucc.succ, j) ∗ anyOwn c (sndS t s.succ j)
    ∗ own c (accKeep c t j) (keepC m ρ c (t, s.castSucc.castSucc, j)))
def B1 (s : Fin 2) (t : Fin 3) (j : Fin 4) : sProp 𝕄 :=
  iprop(Over m ρ c (t, s.castSucc.castSucc, j) ∗ Sent c (t, s.castSucc.succ, j)
    ∗ own c (accKeep c t j) (keepC m ρ c (t, s.castSucc.succ, j)))

theorem recv_eq (t s : Fin 3) (j : Fin 4) :
    xPay m ρ c (true, (t, s.castSucc, j)) = own c (rcvS t s j) (sent m ρ (xp (t, s.castSucc, j) c) (t, s.castSucc, j)) :=
  (xPay_recv m ρ c _).trans (congrArg (fun v => own c v _) (dstV_eq (xp (t, s.castSucc, j) c) t s j))

theorem mid_src (s : Fin 2) (t : Fin 3) (j : Fin 4) :
    own c (sndS t s.succ j) (pay0 t (sumP t (keepC m ρ c (t, s.castSucc.castSucc, j)) (sent m ρ (xp (t, s.castSucc.castSucc, j) c) (t, s.castSucc.castSucc, j))))
      = own c (srcV c t s.succ.castSucc j) (sent m ρ c (t, s.succ.castSucc, j)) := by
  rw [srcV_eq c t s.succ j, ← sent_succ]; rfl
theorem last_src (t : Fin 3) (j : Fin 4) :
    own c (outKeep c t j) (payY t (keepC m ρ c (t, 2, j)) (sent m ρ (xp (t, 2, j) c) (t, 2, j)))
      = own c (srcV c t 3 j) (sent m ρ c (t, 3, j)) := by
  rw [srcV_last c t j, ← sent_last]

theorem mid_rule (s : Fin 2) (t : Fin 3) (j : Fin 4) {α : Type} (Q : α → sProp 𝕄) (k : PUnit → KP F α) (l : List X)
    (hl : ∀ e ∈ l, s.val < e.2.1.val) :
    iprop(Thr m ρ K c ((t, s.castSucc.succ, j) :: l) ∗ A1 m ρ c s t j)
      ⊢ iprop((Thr m ρ K c l ∗ B1 m ρ c s t j -∗ runs c (k ⟨⟩) Q) -∗ runs c (midP s c t j >>= k) Q) := by
  unfold midP A1 B1
  simp only [bind_assoc]
  iintro ⟨HT, HM, HA, HS, HK⟩ Hk
  iapply (thr_await m ρ K c t s.castSucc.castSucc j Q _ ((t, s.castSucc.succ, j) :: l) (by
    intro e he
    rcases List.mem_cons.mp he with rfl | he
    · show s.val < s.val + 1; omega
    · exact hl e he)) $$ [HT HM]
  · isplitl [HT] <;> iassumption
  unfold Over
  iintro ⟨HT, HC, HX, HY⟩
  ihave HY := (Entails.of_eq (recv_eq m ρ c t s.castSucc j)) $$ HY
  iapply (load_slice c accM Q (keepR c t j) (fun _ => rfl) (numel_SC t) _ _) $$ HK
  iintro HK
  iapply (load_slice c (rcvM t s.castSucc) Q (colR t j) (fun _ => rfl) (numel_SC t) _ _) $$ HY
  iintro HY
  iapply (load_any c (sndM t s.succ) Q (colR t j) (fun _ => rfl) (numel_SC t) _ _ (fun _ => rfl)) $$ HS
  iintro HS
  iapply (store_slice c (sndM t s.succ) Q (colR t j) (fun _ => rfl) _ _ _ _) $$ HS
  iintro HS
  iapply (thr_send m ρ K c t s.succ.castSucc j Q _ l) $$ [HT HA HS]
  · isplitl [HT]; · iexact HT
    isplitl [HA]; · iexact HA
    iapply (Entails.of_eq (mid_src m ρ c s t j)); iexact HS
  iintro ⟨HT, HM⟩
  iapply (load_slice c accM Q (keepR c t j) (fun _ => rfl) (numel_SC t) _ _) $$ HK
  iintro HK
  ihave HK := (any_of_own c _ _) $$ HK
  iapply (store_slice c accM Q (keepR c t j) (fun _ => rfl) _ _ _ _) $$ HK
  iintro HK
  iapply Hk
  isplitl [HT]; · iexact HT
  isplitl [HC HX HY]
  · isplitl [HC]; · iexact HC
    isplitl [HX]; · iexact HX
    iapply (Entails.of_eq (recv_eq m ρ c t s.castSucc j).symm); iexact HY
  isplitl [HM]; · iexact HM
  iexact HK

/-! ## The last sum -/

def A3 (t : Fin 3) (j : Fin 4) : sProp 𝕄 :=
  iprop(Sent c (t, 2, j) ∗ Ready c (t, 3, j) ∗ anyOwn c (outKeep c t j) ∗ own c (accKeep c t j) (keepC m ρ c (t, 2, j)))
def B3 (t : Fin 3) (j : Fin 4) : sProp 𝕄 :=
  iprop(Over m ρ c (t, 2, j) ∗ Sent c (t, 3, j) ∗ own c (accKeep c t j) (keepC m ρ c (t, 2, j)))

theorem st3_rule (t : Fin 3) (j : Fin 4) {α : Type} (Q : α → sProp 𝕄) (k : PUnit → KP F α) (l : List X)
    (hl : ∀ e ∈ l, 2 < e.2.1.val) :
    iprop(Thr m ρ K c ((t, 3, j) :: l) ∗ A3 m ρ c t j)
      ⊢ iprop((Thr m ρ K c l ∗ B3 m ρ c t j -∗ runs c (k ⟨⟩) Q) -∗ runs c (st3P c t j >>= k) Q) := by
  unfold st3P A3 B3
  simp only [bind_assoc]
  iintro ⟨HT, HM, HA, HS, HK⟩ Hk
  iapply (thr_await m ρ K c t 2 j Q _ ((t, 3, j) :: l) (by
    intro e he
    rcases List.mem_cons.mp he with rfl | he
    · show (2 : ℕ) < 3; omega
    · exact hl e he)) $$ [HT HM]
  · isplitl [HT] <;> iassumption
  unfold Over
  iintro ⟨HT, HC, HX, HY⟩
  ihave HY := (Entails.of_eq (show xPay m ρ c (true, (t, 2, j)) = own c (rcvS t 2 j) (sent m ρ (xp (t, 2, j) c) (t, 2, j)) from recv_eq m ρ c t 2 j)) $$ HY
  iapply (load_slice c accM Q (keepR c t j) (fun _ => rfl) (numel_SC t) _ _) $$ HK
  iintro HK
  iapply (load_slice c (rcvM t 2) Q (colR t j) (fun _ => rfl) (numel_SC t) _ _) $$ HY
  iintro HY
  iapply (load_any c outM Q (keepR c t j) (fun _ => rfl) (numel_SC t) _ _ (fun _ => rfl)) $$ HS
  iintro HS
  iapply (store_slice c outM Q (keepR c t j) (fun _ => rfl) _ _ _ _) $$ HS
  iintro HS
  iapply (thr_send m ρ K c t 3 j Q _ l) $$ [HT HA HS]
  · isplitl [HT]; · iexact HT
    isplitl [HA]; · iexact HA
    iapply (Entails.of_eq (last_src m ρ c t j)); iexact HS
  iintro ⟨HT, HM⟩
  iapply Hk
  isplitl [HT]; · iexact HT
  isplitl [HC HX HY]
  · isplitl [HC]; · iexact HC
    isplitl [HX]; · iexact HX
    iapply (Entails.of_eq (show xPay m ρ c (true, (t, 2, j)) = own c (rcvS t 2 j) (sent m ρ (xp (t, 2, j) c) (t, 2, j)) from recv_eq m ρ c t 2 j).symm)
    iexact HY
  isplitl [HM] <;> iassumption

/-! ## The loops -/

abbrev exs (s : Fin 4) (l : List (Fin 3 × Fin 4)) : List X := l.map fun p => (p.1, s, p.2)

theorem stage_of {s : Fin 4} {l : List (Fin 3 × Fin 4)} {e : X} (h : e ∈ exs s l) : e.2.1 = s := by
  obtain ⟨p, -, rfl⟩ := List.mem_map.mp h; rfl

theorem st0_loop (rest : List X) (l : List (Fin 3 × Fin 4)) {α : Type} (k : PUnit → KP F α) (Q : α → sProp 𝕄) :
    iprop(Thr m ρ K c (exs 0 l ++ rest) ∗ bigSepL l fun p => A0 m ρ c p.1 p.2)
      ⊢ iprop((Thr m ρ K c rest ∗ (bigSepL l fun p => B0 m ρ c p.1 p.2) -∗ runs c (k ⟨⟩) Q)
        -∗ runs c (seqL (fun p : Fin 3 × Fin 4 => st0P c p.1 p.2) l >>= k) Q) :=
  seq_rule c _ (fun l => Thr m ρ K c (exs 0 l ++ rest)) _ _ (fun x l _ k Q => st0_rule m ρ K c x.1 x.2 Q k _) l k Q

theorem mid_loop (s : Fin 2) (rest : List X) (hr : ∀ e ∈ rest, s.val < e.2.1.val) (l : List (Fin 3 × Fin 4))
    {α : Type} (k : PUnit → KP F α) (Q : α → sProp 𝕄) :
    iprop(Thr m ρ K c (exs s.castSucc.succ l ++ rest) ∗ bigSepL l fun p => A1 m ρ c s p.1 p.2)
      ⊢ iprop((Thr m ρ K c rest ∗ (bigSepL l fun p => B1 m ρ c s p.1 p.2) -∗ runs c (k ⟨⟩) Q)
        -∗ runs c (seqL (fun p : Fin 3 × Fin 4 => midP s c p.1 p.2) l >>= k) Q) :=
  seq_rule c _ (fun l => Thr m ρ K c (exs s.castSucc.succ l ++ rest)) _ _ (fun x l _ k Q => mid_rule m ρ K c s x.1 x.2 Q k _ (by
    intro e he
    rcases List.mem_append.mp he with he | he
    · rw [stage_of he]; show s.val < s.val + 1; omega
    · exact hr e he)) l k Q

theorem st3_loop (l : List (Fin 3 × Fin 4)) {α : Type} (k : PUnit → KP F α) (Q : α → sProp 𝕄) :
    iprop(Thr m ρ K c (exs 3 l) ∗ bigSepL l fun p => A3 m ρ c p.1 p.2)
      ⊢ iprop((Thr m ρ K c [] ∗ (bigSepL l fun p => B3 m ρ c p.1 p.2) -∗ runs c (k ⟨⟩) Q)
        -∗ runs c (seqL (fun p : Fin 3 × Fin 4 => st3P c p.1 p.2) l >>= k) Q) :=
  seq_rule c _ (fun l => Thr m ρ K c (exs 3 l)) _ _ (fun x l _ k Q => st3_rule m ρ K c x.1 x.2 Q k _ (by
    intro e he; rw [stage_of he]; decide)) l k Q

theorem last_loop (l : List (Fin 3 × Fin 4)) {α : Type} (k : PUnit → KP F α) (Q : α → sProp 𝕄) :
    iprop(Thr m ρ K c [] ∗ bigSepL l fun p => Sent c (p.1, 3, p.2))
      ⊢ iprop((Thr m ρ K c [] ∗ (bigSepL l fun p => Over m ρ c (p.1, 3, p.2)) -∗ runs c (k ⟨⟩) Q)
        -∗ runs c (seqL (fun p : Fin 3 × Fin 4 => awaitP c p.1 3 p.2) l >>= k) Q) :=
  seq_rule c _ (fun _ => Thr m ρ K c []) _ _ (fun x l _ k Q => thr_await m ρ K c x.1 3 x.2 Q k [] (fun _ h => nomatch h)) l k Q

end Cert.KernelIdeal.Ring
-- ==== Proof.Geometry.lean ====
/- How the buffers divide into the slices the exchanges move, and join again. -/
module

public import proofs.«01_k».proof.Proof.Stages

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (c : Dev nD)

theorem some_elt (e : EltTy) : Nonempty (Elt F e) := by
  cases e <;> first | exact ⟨(0 : BitVec _)⟩ | exact ⟨FloatOps.ofBits _ 0⟩

/-! ## Families of rectangles -/

section Rects
variable {sh : Shape} {T : Type} [Fintype T] [DecidableEq T] (r : T → Rect sh)

/-- A family that divides a shape: pairwise disjoint, covering. -/
structure Divides : Prop where
  disj : ∀ t t', t ≠ t' → Disjoint (r t).set (r t').set
  cov : (Finset.univ : Finset T).biUnion (fun t => (r t).set) = Finset.univ

variable {r}
theorem Divides.place (h : Divides r) (i : sh.Idx) : ∃ p : Σ t, (r t).shape.Idx, (r p.1).emb p.2 = i := by
  obtain ⟨t, -, hi⟩ := Finset.mem_biUnion.mp (h.cov.symm ▸ Finset.mem_univ i)
  rw [← Rect.map_emb_univ, Finset.mem_map] at hi
  obtain ⟨k, -, hk⟩ := hi
  exact ⟨⟨t, k⟩, hk⟩
theorem Divides.inj (h : Divides r) {p q : Σ t, (r t).shape.Idx} (e : (r p.1).emb p.2 = (r q.1).emb q.2) : p = q := by
  obtain ⟨t, k⟩ := p; obtain ⟨t', k'⟩ := q
  have hm : ∀ t (k : (r t).shape.Idx), (r t).emb k ∈ (r t).set := fun t k => by
    rw [← Rect.map_emb_univ]; exact Finset.mem_map_of_mem _ (Finset.mem_univ k)
  by_cases ht : t = t'
  · subst ht; exact congrArg (Sigma.mk t) ((r t).emb.injective e)
  · exact absurd (e ▸ hm t k) (fun h' => Finset.disjoint_left.mp (h.disj t t' ht) (hm t k) (e ▸ hm t' k'))

/-- The function whose parts on the rectangles are given. -/
def glue {α : Type} (h : Divides r) (A : ∀ t, (r t).shape.Idx → α) (i : sh.Idx) : α :=
  A (h.place i).choose.1 (h.place i).choose.2
theorem glue_emb {α : Type} (h : Divides r) (A : ∀ t, (r t).shape.Idx → α) (t : T) (k : (r t).shape.Idx) :
    glue h A ((r t).emb k) = A t k := by
  have e : (h.place ((r t).emb k)).choose = ⟨t, k⟩ := h.inj (h.place ((r t).emb k)).choose_spec
  unfold glue
  rw [e]

variable {e : EltTy} (M : Memref sig .tc .vmem sh e) (hr : ∀ t a, (r t).stride a = 1)

theorem own_divide (h : Divides r) (A : sh.Idx → Elt F e) :
    own c M A ⊢ bigSep Finset.univ fun t => own c (M.slice (r t) (hr t)) (fun j => A ((r t).emb j)) :=
  owns_rects (c : Thread nD τ) M fullShare r hr h.disj h.cov A
theorem own_join (h : Divides r) (A : ∀ t, (r t).shape.Idx → Elt F e) :
    (bigSep Finset.univ fun t => own c (M.slice (r t) (hr t)) (A t)) ⊢ own c M (glue h A) := by
  haveI : ∀ e, Nonempty (Elt F e) := some_elt
  refine BIBase.Entails.trans (Entails.of_eq ?_) (owns_of_rects (c : Thread nD τ) M fullShare r hr h.disj h.cov (glue h A))
  exact bigSep_congr fun t _ => congrArg (own c (M.slice (r t) (hr t))) (funext fun k => (glue_emb h A t k).symm)
theorem any_divide (h : Divides r) : anyOwn (F := F) c M ⊢ bigSep Finset.univ fun t => anyOwn c (M.slice (r t) (hr t)) := by
  unfold anyOwn
  iintro ⟨%A, H⟩
  iapply ((own_divide c M hr h A).trans (BI.bigSep_mono (fun t _ => any_of_own c (M.slice (r t) (hr t)) (fun j => A ((r t).emb j)))))
  iexact H
theorem any_join (h : Divides r) : (bigSep Finset.univ fun t => anyOwn (F := F) c (M.slice (r t) (hr t))) ⊢ anyOwn c M := by
  haveI : ∀ e, Nonempty (Elt F e) := some_elt
  unfold anyOwn
  refine (BI.bigSep_exists_pi Finset.univ fun t (A : (r t).shape.Idx → Elt F e) => own c (M.slice (r t) (hr t)) A).trans ?_
  iintro ⟨%A, H⟩
  iexists (glue h A)
  iapply (own_join c M hr h A); iexact H

end Rects

/-- A slice of a slice. -/
theorem own_nest {s : Shape} {e : EltTy} (M : Memref sig .tc .vmem s e) {off size off' size' off'' : Fin s.rank → ℕ} {inb inb' inb''}
    (ho : ∀ a, off a + off' a = off'' a) (A : (Rect.unit (s := s) off'' size' inb'').shape.Idx → Elt F e) :
    own c ((M.slice (Rect.unit off size inb) (fun _ => rfl)).slice (Rect.unit off' size' inb') (fun _ => rfl)) A
      ⊢ own c (M.slice (Rect.unit off'' size' inb'') (fun _ => rfl)) A := by
  have hi : ∀ k : (Rect.unit (s := s) off'' size' inb'').shape.Idx,
      (Rect.unit off size inb).emb ((Rect.unit (s := (Rect.unit off size inb).shape) off' size' inb').emb k) = (Rect.unit off'' size' inb'').emb k := by
    intro k; funext a; apply Fin.ext
    have := ho a
    simp only [Rect.emb_apply]
    show off a + 1 * (off' a + 1 * (k a).val) = off'' a + 1 * (k a).val
    omega
  unfold own owns
  iintro ⟨%f, %hf, H⟩
  iexists f
  isplitr
  · ipureintro; rw [← hf]; funext k; exact congrArg (M.view.read (Elt F) f) (hi k).symm
  rw [show (M.slice (Rect.unit off'' size' inb'') (fun _ => rfl)).view.set
    = ((M.slice (Rect.unit off size inb) (fun _ => rfl)).slice (Rect.unit off' size' inb') (fun _ => rfl)).view.set from by
      refine congrArg (fun g => Finset.univ.map g) (Function.Embedding.ext fun k => ?_)
      exact congrArg M.view.emb (hi k).symm]
  iexact H

/-! ## The families -/

theorem div_col (t : Fin 3) : Divides (colR t) where
  disj := by
    intro j j' h
    exact Rect.unit_disjoint (s := SB t) (1 : Fin 2) (by
      show 256 * j.val + 256 ≤ 256 * j'.val ∨ 256 * j'.val + 256 ≤ 256 * j.val
      have : j.val ≠ j'.val := fun e => h (Fin.ext e)
      omega)
  cov := by
    ext i
    simp only [Finset.mem_biUnion, Finset.mem_univ, true_and, iff_true]
    have h1 : (i (1 : Fin 2)).val < 1024 := (i (1 : Fin 2)).isLt
    have h0 : (i (0 : Fin 2)).val < hh t := (i (0 : Fin 2)).isLt
    refine ⟨⟨(i (1 : Fin 2)).val / 256, by omega⟩, Rect.mem_set_unit.mpr (Fin.forall_fin_two.mpr ⟨?_, ?_⟩)⟩
    · show 0 ≤ (i (0 : Fin 2)).val ∧ (i (0 : Fin 2)).val < 0 + hh t; omega
    · show 256 * ((i (1 : Fin 2)).val / 256) ≤ (i (1 : Fin 2)).val ∧ (i (1 : Fin 2)).val < 256 * ((i (1 : Fin 2)).val / 256) + 256; omega

theorem div_accCol : Divides accColR where
  disj := by
    intro j j' h
    exact Rect.unit_disjoint (s := S1024x1024) (1 : Fin 2) (by
      show 256 * j.val + 256 ≤ 256 * j'.val ∨ 256 * j'.val + 256 ≤ 256 * j.val
      have : j.val ≠ j'.val := fun e => h (Fin.ext e)
      omega)
  cov := by
    ext i
    simp only [Finset.mem_biUnion, Finset.mem_univ, true_and, iff_true]
    have h1 : (i (1 : Fin 2)).val < 1024 := (i (1 : Fin 2)).isLt
    have h0 : (i (0 : Fin 2)).val < 1024 := (i (0 : Fin 2)).isLt
    refine ⟨⟨(i (1 : Fin 2)).val / 256, by omega⟩, Rect.mem_set_unit.mpr (Fin.forall_fin_two.mpr ⟨?_, ?_⟩)⟩
    · show 0 ≤ (i (0 : Fin 2)).val ∧ (i (0 : Fin 2)).val < 0 + 1024; omega
    · show 256 * ((i (1 : Fin 2)).val / 256) ≤ (i (1 : Fin 2)).val ∧ (i (1 : Fin 2)).val < 256 * ((i (1 : Fin 2)).val / 256) + 256; omega

theorem rows_disj : ∀ (t t' : Fin 3) (b b' : Fin 2), (t, b) ≠ (t', b') →
    row t b + hh t ≤ row t' b' ∨ row t' b' + hh t' ≤ row t b := by decide
theorem rows_cov (x : ℕ) (h : x < 1024) : ∃ (t : Fin 3) (b : Fin 2), row t b ≤ x ∧ x < row t b + hh t := by
  rcases Nat.lt_or_ge x 176 with h0 | h0
  · exact ⟨0, 0, by show 0 + 0 * 176 ≤ x ∧ x < 0 + 0 * 176 + 176; omega⟩
  rcases Nat.lt_or_ge x 352 with h1 | h1
  · exact ⟨0, 1, by show 0 + 1 * 176 ≤ x ∧ x < 0 + 1 * 176 + 176; omega⟩
  rcases Nat.lt_or_ge x 528 with h2 | h2
  · exact ⟨1, 0, by show 352 + 0 * 176 ≤ x ∧ x < 352 + 0 * 176 + 176; omega⟩
  rcases Nat.lt_or_ge x 704 with h3 | h3
  · exact ⟨1, 1, by show 352 + 1 * 176 ≤ x ∧ x < 352 + 1 * 176 + 176; omega⟩
  rcases Nat.lt_or_ge x 864 with h4 | h4
  · exact ⟨2, 0, by show 704 + 0 * 160 ≤ x ∧ x < 704 + 0 * 160 + 160; omega⟩
  · exact ⟨2, 1, by show 704 + 1 * 160 ≤ x ∧ x < 704 + 1 * 160 + 160; omega⟩

theorem div_half : Divides (fun p : Fin 3 × Fin 2 => halfR p.1 p.2) where
  disj := by
    rintro ⟨t, b⟩ ⟨t', b'⟩ h
    exact Rect.unit_disjoint (s := S1024x256) (0 : Fin 2) (rows_disj t t' b b' h)
  cov := by
    ext i
    simp only [Finset.mem_biUnion, Finset.mem_univ, true_and, iff_true]
    have h1 : (i (1 : Fin 2)).val < 256 := (i (1 : Fin 2)).isLt
    obtain ⟨t, b, h⟩ := rows_cov _ (i (0 : Fin 2)).isLt
    refine ⟨(t, b), Rect.mem_set_unit.mpr (Fin.forall_fin_two.mpr ⟨h, ?_⟩)⟩
    show 0 ≤ (i (1 : Fin 2)).val ∧ (i (1 : Fin 2)).val < 0 + 256; omega

/-- Tree, column block, half. -/
abbrev Blk : Type := (Fin 3 × Fin 4) × Fin 2
abbrev blkP (p : Blk) : Rect S1024x1024 := blkR p.1.1 p.2 p.1.2

theorem div_blk : Divides blkP where
  disj := by
    rintro ⟨⟨t, j⟩, b⟩ ⟨⟨t', j'⟩, b'⟩ h
    by_cases hj : j = j'
    · subst hj
      exact Rect.unit_disjoint (s := S1024x1024) (0 : Fin 2) (rows_disj t t' b b' fun e => h (by
        obtain ⟨rfl, rfl⟩ := Prod.mk.injEq .. ▸ e; rfl))
    · exact Rect.unit_disjoint (s := S1024x1024) (1 : Fin 2) (by
        show 256 * j.val + 256 ≤ 256 * j'.val ∨ 256 * j'.val + 256 ≤ 256 * j.val
        have : j.val ≠ j'.val := fun e => hj (Fin.ext e)
        omega)
  cov := by
    ext i
    simp only [Finset.mem_biUnion, Finset.mem_univ, true_and, iff_true]
    have h1 : (i (1 : Fin 2)).val < 1024 := (i (1 : Fin 2)).isLt
    obtain ⟨t, b, h⟩ := rows_cov _ (i (0 : Fin 2)).isLt
    refine ⟨((t, ⟨(i (1 : Fin 2)).val / 256, by omega⟩), b), Rect.mem_set_unit.mpr (Fin.forall_fin_two.mpr ⟨h, ?_⟩)⟩
    show 256 * ((i (1 : Fin 2)).val / 256) ≤ (i (1 : Fin 2)).val ∧ (i (1 : Fin 2)).val < 256 * ((i (1 : Fin 2)).val / 256) + 256; omega

/-! ## Kept and sent halves -/

theorem two_halves (x : Fin 2) (Φ : Fin 2 → sProp 𝕄) : bigSep Finset.univ Φ = iprop(Φ x ∗ Φ (flip x)) := by
  rw [BI.bigSep_fin_two]
  fin_cases x
  · rfl
  · exact equiv_iff.mp ⟨BI.sep_comm, BI.sep_comm⟩

abbrev accBlk (t : Fin 3) (b : Fin 2) (j : Fin 4) : Memref sig .tc .vmem (SC t) .f32 := accM.slice (blkR t b j) (fun _ => rfl)
abbrev outBlk (t : Fin 3) (b : Fin 2) (j : Fin 4) : Memref sig .tc .vmem (SC t) .bf16 := outM.slice (blkR t b j) (fun _ => rfl)

theorem accKeep_eq (t : Fin 3) (j : Fin 4) : accKeep c t j = accBlk t (bit c t) j :=
  Memref.slice_unit_congr accM (keepOff_eq c t j) _ _ (fun _ => rfl) (fun _ => rfl)
theorem accSend_eq (t : Fin 3) (j : Fin 4) : accSend c t j = accBlk t (flip (bit c t)) j :=
  Memref.slice_unit_congr accM (sendOff_eq c t j) _ _ (fun _ => rfl) (fun _ => rfl)
theorem outKeep_eq (t : Fin 3) (j : Fin 4) : outKeep c t j = outBlk t (bit c t) j :=
  Memref.slice_unit_congr outM (keepOff_eq c t j) _ _ (fun _ => rfl) (fun _ => rfl)
theorem srcV_blk (t : Fin 3) (j : Fin 4) : srcV c t 3 j = outBlk t (bit c t) j := (srcV_last c t j).trans (outKeep_eq c t j)
theorem dstV_blk (t : Fin 3) (j : Fin 4) : dstV (partner t c) t 3 j = outBlk t (flip (bit c t)) j :=
  Memref.slice_unit_congr outM ((outOff_eq (partner t c) t j).trans (by rw [bit_partner])) _ _ (fun _ => rfl) (fun _ => rfl)

/-- A column of the product, divided. -/
theorem acc_halves (j : Fin 4) :
    own c (accM.slice (accColR j) (fun _ => rfl)) (dotB m ρ c j)
      ⊢ bigSep Finset.univ fun t : Fin 3 => iprop(own c (accKeep c t j) (dotAt m ρ c t (bit c t) j)
          ∗ own c (accSend c t j) (dotAt m ρ c t (flip (bit c t)) j)) := by
  refine (own_divide c (accM.slice (accColR j) (fun _ => rfl)) (r := fun p : Fin 3 × Fin 2 => halfR p.1 p.2) (fun _ _ => rfl)
    div_half (dotB m ρ c j)).trans ?_
  rw [BI.bigSep_univ_prod]
  refine BI.bigSep_mono fun t _ => ?_
  rw [two_halves (bit c t), accKeep_eq, accSend_eq]
  exact BI.sep_mono (own_nest c accM (Fin.forall_fin_two.mpr ⟨Nat.zero_add _, Nat.add_zero _⟩) _)
    (own_nest c accM (Fin.forall_fin_two.mpr ⟨Nat.zero_add _, Nat.add_zero _⟩) _)

theorem acc_join : (bigSep Finset.univ fun p : Fin 3 × Fin 4 => iprop(anyOwn (F := F) c (accKeep c p.1 p.2) ∗ anyOwn c (accSend c p.1 p.2)))
    ⊢ anyOwn c accM := by
  refine BIBase.Entails.trans (Entails.of_eq ?_) (any_join c accM (r := blkP) (fun _ _ => rfl) div_blk)
  rw [BI.bigSep_univ_prod (α := Fin 3 × Fin 4)]
  refine bigSep_congr fun p _ => ?_
  rw [two_halves (bit c p.1), accKeep_eq, accSend_eq]

theorem out_divide : anyOwn (F := F) c outM
    ⊢ bigSep Finset.univ fun p : Fin 3 × Fin 4 => iprop(anyOwn c (outKeep c p.1 p.2) ∗ anyOwn c (dstV (partner p.1 c) p.1 3 p.2)) := by
  refine (any_divide c outM (r := blkP) (fun _ _ => rfl) div_blk).trans (Entails.of_eq ?_)
  rw [BI.bigSep_univ_prod (α := Fin 3 × Fin 4)]
  refine bigSep_congr fun p _ => ?_
  rw [two_halves (bit c p.1), outKeep_eq, dstV_blk]

/-- The result, block by block: a device's own kept rows, and those its partner kept. -/
def outPart (p : Blk) : FVec F (SC p.1.1) .bf16 :=
  if p.2 = bit c p.1.1 then sent m ρ c (p.1.1, 3, p.1.2) else sent m ρ (partner p.1.1 c) (p.1.1, 3, p.1.2)
def outAt : FVec F S1024x1024 .bf16 := glue div_blk (outPart m ρ c)

theorem flip_ne (x : Fin 2) : flip x ≠ x := by revert x; decide

theorem out_join : (bigSep Finset.univ fun p : Fin 3 × Fin 4 => iprop(xPay m ρ c (false, (p.1, 3, p.2)) ∗ xPay m ρ c (true, (p.1, 3, p.2))))
    ⊢ own c outM (outAt m ρ c) := by
  refine BIBase.Entails.trans (Entails.of_eq ?_) (own_join c outM (r := blkP) (fun _ _ => rfl) div_blk (outPart m ρ c))
  rw [BI.bigSep_univ_prod (α := Fin 3 × Fin 4)]
  refine bigSep_congr fun p _ => ?_
  have ha : xp (p.1, (3 : Fin 4), p.2) c = partner p.1 c := congrArg (fun a => partner a c) (by
    have : ∀ t : Fin 3, ax t 3 = t := by decide
    exact this p.1)
  rw [two_halves (bit c p.1), xPay_send, xPay_recv, ha]
  show iprop(own c (srcV c p.1 3 p.2) (sent m ρ c (p.1, 3, p.2)) ∗ own c (dstV (partner p.1 c) p.1 3 p.2) (sent m ρ (partner p.1 c) (p.1, 3, p.2)))
    = iprop(own c (outBlk p.1 (bit c p.1) p.2) (outPart m ρ c (p, bit c p.1)) ∗ own c (outBlk p.1 (flip (bit c p.1)) p.2) (outPart m ρ c (p, flip (bit c p.1))))
  rw [srcV_blk, dstV_blk, show outPart m ρ c (p, bit c p.1) = sent m ρ c (p.1, 3, p.2) from if_pos rfl,
    show outPart m ρ c (p, flip (bit c p.1)) = sent m ρ (partner p.1 c) (p.1, 3, p.2) from if_neg (flip_ne _)]

/-! ## Whole buffers -/

theorem snd_divide (t s : Fin 3) : anyOwn (F := F) c (sndM t s) ⊢ bigSep Finset.univ fun j : Fin 4 => anyOwn c (sndS t s j) :=
  any_divide c (sndM t s) (fun _ _ => rfl) (div_col t)
theorem rcv_divide (t s : Fin 3) : anyOwn (F := F) c (rcvM t s) ⊢ bigSep Finset.univ fun j : Fin 4 => anyOwn c (rcvS t s j) :=
  any_divide c (rcvM t s) (fun _ _ => rfl) (div_col t)
theorem snd_join (t s : Fin 3) : (bigSep Finset.univ fun j : Fin 4 => anyOwn (F := F) c (sndS t s j)) ⊢ anyOwn c (sndM t s) :=
  any_join c (sndM t s) (fun _ _ => rfl) (div_col t)
theorem rcv_join (t s : Fin 3) : (bigSep Finset.univ fun j : Fin 4 => anyOwn (F := F) c (rcvS t s j)) ⊢ anyOwn c (rcvM t s) :=
  any_join c (rcvM t s) (fun _ _ => rfl) (div_col t)
theorem acc_divide : anyOwn (F := F) c accM ⊢ bigSep Finset.univ fun j : Fin 4 => anyOwn c (accM.slice (accColR j) (fun _ => rfl)) :=
  any_divide c accM (fun _ _ => rfl) div_accCol

end Cert.KernelIdeal.Ring
-- ==== Proof.Main.lean ====
/- The program between the barrier and its end. -/
module

public import proofs.«01_k».proof.Proof.Geometry

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Bool × X) → ℕ) (c : Dev nD)

/-! ## Lists -/

theorem sep_swap (A B C D : sProp 𝕄) : iprop((A ∗ B) ∗ C ∗ D) ⊢ iprop((A ∗ C) ∗ B ∗ D) := by
  iintro ⟨⟨A, B⟩, C, D⟩
  isplitl [A C]; · isplitl [A] <;> iassumption
  isplitl [B] <;> iassumption
theorem bigSepL_sep {I : Type} (l : List I) (Φ Ψ : I → sProp 𝕄) :
    bigSepL l (fun i => iprop(Φ i ∗ Ψ i)) = iprop(bigSepL l Φ ∗ bigSepL l Ψ) := by
  induction l with
  | nil => exact (emp_sep_eq _).symm
  | cons i l ih =>
    rw [bigSepL_cons', bigSepL_cons', bigSepL_cons', ih]
    exact equiv_iff.mp ⟨sep_swap _ _ _ _, sep_swap _ _ _ _⟩
theorem bigSepL_nest {I J : Type} (l : List I) (f : I → List J) (Φ : J → sProp 𝕄) :
    bigSepL l (fun i => bigSepL (f i) Φ) = bigSepL (l.flatMap f) Φ := by
  induction l with
  | nil => rfl
  | cons i l ih => rw [bigSepL_cons', List.flatMap_cons, bigSepL_append, ih]

/-- Per tree and column, in program order. -/
abbrev per (Φ : Fin 3 → Fin 4 → sProp 𝕄) : sProp 𝕄 := bigSepL order fun p => Φ p.1 p.2
theorem per_sep (Φ Ψ : Fin 3 → Fin 4 → sProp 𝕄) : per (fun t j => iprop(Φ t j ∗ Ψ t j)) = iprop(per Φ ∗ per Ψ) := bigSepL_sep _ _ _
theorem per_mono {Φ Ψ : Fin 3 → Fin 4 → sProp 𝕄} (h : ∀ t j, Φ t j ⊢ Ψ t j) : per Φ ⊢ per Ψ := bigSepL_mono fun p _ => h p.1 p.2
theorem per_eq (Φ : Fin 3 → Fin 4 → sProp 𝕄) : per Φ = bigSep Finset.univ fun p : Fin 3 × Fin 4 => Φ p.1 p.2 :=
  (bigSep_univ_eq_bigSepL order (by decide) (by decide) _).symm

/-! ## The product -/

abbrev accCol (j : Fin 4) : Memref sig .tc .vmem S1024x256 .f32 := accM.slice (accColR j) (fun _ => rfl)
/-- The staged operands. -/
def Args : sProp 𝕄 := iprop(own c xM (xstg m ρ c) ∗ own c wM (wstg m ρ c))

theorem dot_rule (j : Fin 4) {α : Type} (Q : α → sProp 𝕄) (k : PUnit → KP F α) :
    iprop(Args m ρ c ∗ anyOwn c (accCol j))
      ⊢ iprop((Args m ρ c ∗ own c (accCol j) (dotB m ρ c j) -∗ runs c (k ⟨⟩) Q) -∗ runs c (dotP j >>= k) Q) := by
  unfold dotP Args
  simp only [bind_assoc]
  iintro ⟨⟨HX, HW⟩, HA⟩ Hk
  iapply (load_whole c xM Q xR h_S1024x128 _ _) $$ HX
  iintro HX
  iapply (load_whole c wM Q (wColR j) h_S128x256 _ _) $$ HW
  iintro HW
  iapply (load_any c accM Q (accColR j) (fun _ => rfl) h_S1024x256 _ _ (fun _ => rfl)) $$ HA
  iintro HA
  iapply (store_slice c accM Q (accColR j) (fun _ => rfl) _ _ _ _) $$ HA
  iintro HA
  iapply Hk
  isplitr [HA]
  · isplitl [HX] <;> iassumption
  iexact HA

/-- A column of the product, and its three first messages sent. -/
def Acol (j : Fin 4) : sProp 𝕄 :=
  iprop(anyOwn c (accCol j) ∗ bigSepL (trees j) fun p => iprop(Ready c (p.1, 0, p.2) ∗ anyOwn (F := F) c (sndS p.1 0 p.2)))
def Bcol (j : Fin 4) : sProp 𝕄 :=
  bigSepL (trees j) fun p => iprop(own c (accKeep c p.1 p.2) (keepC m ρ c (p.1, 0, p.2)) ∗ B0 m ρ c p.1 p.2)

theorem col_rule (j : Fin 4) (rest : List X) {α : Type} (Q : α → sProp 𝕄) (k : PUnit → KP F α) :
    iprop((Thr m ρ K c (exs 0 (trees j) ++ rest) ∗ Args m ρ c) ∗ Acol c j)
      ⊢ iprop(((Thr m ρ K c rest ∗ Args m ρ c) ∗ Bcol m ρ c j -∗ runs c (k ⟨⟩) Q)
        -∗ runs c ((dotP j >>= fun _ => seqL (fun p : Fin 3 × Fin 4 => st0P c p.1 p.2) (trees j)) >>= k) Q) := by
  unfold Acol Bcol
  rw [bind_assoc]
  iintro ⟨⟨HT, HX⟩, HA, HR⟩ Hk
  iapply (dot_rule m ρ c j Q _) $$ [HX HA]
  · isplitl [HX] <;> iassumption
  iintro ⟨HX, HA⟩
  ihave HA := (acc_halves m ρ c j) $$ HA
  ihave HA := (Entails.of_eq ((bigSep_univ_eq_bigSepL [0, 1, 2] (by decide) (by decide) (fun t : Fin 3 =>
    iprop(own c (accKeep c t j) (dotAt m ρ c t (bit c t) j) ∗ own c (accSend c t j) (dotAt m ρ c t (flip (bit c t)) j)))).trans
    ((bigSepL_map (fun t : Fin 3 => (t, j)) [0, 1, 2] (fun p : Fin 3 × Fin 4 => iprop(own c (accKeep c p.1 p.2) (dotAt m ρ c p.1 (bit c p.1) p.2)
      ∗ own c (accSend c p.1 p.2) (dotAt m ρ c p.1 (flip (bit c p.1)) p.2)))).symm.trans (bigSepL_sep _ _ _)))) $$ HA
  icases HA with ⟨HK, HS⟩
  ihave HR := (Entails.of_eq (bigSepL_sep (trees j) _ _)) $$ HR
  icases HR with ⟨HR, HB⟩
  iapply (st0_loop m ρ K c rest (trees j) k Q) $$ [HT HR HB HS]
  · isplitl [HT]; · iexact HT
    iapply (Entails.of_eq ((bigSepL_sep (trees j) _ _).trans (congrArg (fun P => iprop(_ ∗ P)) (bigSepL_sep (trees j) _ _))).symm)
    isplitl [HR]; · iexact HR
    isplitl [HB]; · iexact HB
    iexact HS
  iintro ⟨HT, HB⟩
  iapply Hk
  isplitl [HT HX]
  · isplitl [HT] <;> iassumption
  iapply (Entails.of_eq (bigSepL_sep (trees j) _ _).symm)
  isplitl [HK]; · iexact HK
  iexact HB

theorem cols_loop (rest : List X) {α : Type} (k : PUnit → KP F α) (Q : α → sProp 𝕄) :
    iprop((Thr m ρ K c (stageL 0 ++ rest) ∗ Args m ρ c) ∗ bigSepL cols fun j => Acol (F := F) c j)
      ⊢ iprop(((Thr m ρ K c rest ∗ Args m ρ c) ∗ (bigSepL cols fun j => Bcol m ρ c j) -∗ runs c (k ⟨⟩) Q)
        -∗ runs c (seqL (fun j => dotP j >>= fun _ => seqL (fun p : Fin 3 × Fin 4 => st0P c p.1 p.2) (trees j)) cols >>= k) Q) :=
  seq_rule c _ (fun l => iprop(Thr m ρ K c (exs 0 (l.flatMap trees) ++ rest) ∗ Args m ρ c)) _ _
    (fun j l _ k Q => by
      rw [List.flatMap_cons, exs, List.map_append, List.append_assoc]
      exact col_rule m ρ K c j _ Q k) cols k Q

theorem bcols_eq : (bigSepL cols fun j => Bcol m ρ c j)
    = iprop((per fun t j => own c (accKeep c t j) (keepC m ρ c (t, 0, j))) ∗ per fun t j => B0 m ρ c t j) := by
  unfold Bcol
  exact (bigSepL_nest cols trees (fun p => iprop(own c (accKeep c p.1 p.2) (keepC m ρ c (p.1, 0, p.2)) ∗ B0 m ρ c p.1 p.2))).trans
    (per_sep (fun t j => own c (accKeep c t j) (keepC m ρ c (t, 0, j))) (fun t j => B0 m ρ c t j))

theorem b1_eq (s : Fin 2) : (bigSepL order fun p => B1 m ρ c s p.1 p.2)
    = iprop((per fun t j => Over m ρ c (t, s.castSucc.castSucc, j)) ∗ (per fun t j => Sent c (t, s.castSucc.succ, j))
      ∗ per fun t j => own c (accKeep c t j) (keepC m ρ c (t, s.castSucc.succ, j))) := by
  unfold B1
  exact (per_sep (fun t j => Over m ρ c (t, s.castSucc.castSucc, j)) _).trans (congrArg (fun P => iprop(_ ∗ P))
    (per_sep (fun t j => Sent c (t, s.castSucc.succ, j)) (fun t j => own c (accKeep c t j) (keepC m ρ c (t, s.castSucc.succ, j)))))
theorem b3_eq : (bigSepL order fun p => B3 m ρ c p.1 p.2)
    = iprop((per fun t j => Over m ρ c (t, 2, j)) ∗ (per fun t j => Sent c (t, 3, j))
      ∗ per fun t j => own c (accKeep c t j) (keepC m ρ c (t, 2, j))) := by
  unfold B3
  exact (per_sep (fun t j => Over m ρ c (t, 2, j)) _).trans (congrArg (fun P => iprop(_ ∗ P))
    (per_sep (fun t j => Sent c (t, 3, j)) (fun t j => own c (accKeep c t j) (keepC m ρ c (t, 2, j)))))

/-! ## All of it -/

/-- What the program runs on, after the barrier. -/
def Before : sProp 𝕄 :=
  iprop((bigSepL cols fun j => anyOwn (F := F) c (accCol j))
    ∗ (per fun t j => iprop(Ready c (t, 0, j) ∗ anyOwn (F := F) c (sndS t 0 j)))
    ∗ (per fun t j => iprop(Ready c (t, 1, j) ∗ anyOwn (F := F) c (sndS t 1 j)))
    ∗ (per fun t j => iprop(Ready c (t, 2, j) ∗ anyOwn (F := F) c (sndS t 2 j)))
    ∗ (per fun t j => iprop(Ready c (t, 3, j) ∗ anyOwn (F := F) c (outKeep c t j))))
/-- And what it leaves. -/
def After : sProp 𝕄 :=
  iprop((per fun t j => iprop(anyOwn (F := F) c (accKeep c t j) ∗ anyOwn c (accSend c t j)))
    ∗ (per fun t j => Over m ρ c (t, 0, j)) ∗ (per fun t j => Over m ρ c (t, 1, j))
    ∗ (per fun t j => Over m ρ c (t, 2, j)) ∗ (per fun t j => Over m ρ c (t, 3, j)))

/-- The program after the barrier. -/
def tailP : KP F PUnit :=
  seqL (fun j => dotP j >>= fun _ => seqL (fun p => st0P c p.1 p.2) (trees j)) cols >>= fun _ =>
  seqL (fun p => midP 0 c p.1 p.2) order >>= fun _ =>
  seqL (fun p => midP 1 c p.1 p.2) order >>= fun _ =>
  seqL (fun p => st3P c p.1 p.2) order >>= fun _ =>
  seqL (fun p => awaitP c p.1 3 p.2) order

theorem later (s : Fin 4) (n : ℕ) (h : n < s.val) : ∀ e ∈ stageL s, n < e.2.1.val := by
  intro e he; rw [stage_of he]; exact h

theorem tail_rule (Q : PUnit → sProp 𝕄) :
    iprop(Thr m ρ K c allL ∗ Args m ρ c ∗ Before (F := F) c)
      ⊢ iprop((Thr m ρ K c [] ∗ Args m ρ c ∗ After m ρ c -∗ runs c (pure ⟨⟩) Q) -∗ runs c (tailP c) Q) := by
  rw [show (tailP c : KP F PUnit) = seqL (fun j => dotP j >>= fun _ => seqL (fun p : Fin 3 × Fin 4 => st0P c p.1 p.2) (trees j)) cols >>= fun _ =>
    seqL (fun p : Fin 3 × Fin 4 => midP 0 c p.1 p.2) order >>= fun _ =>
    seqL (fun p : Fin 3 × Fin 4 => midP 1 c p.1 p.2) order >>= fun _ =>
    seqL (fun p : Fin 3 × Fin 4 => st3P c p.1 p.2) order >>= fun _ =>
    seqL (fun p : Fin 3 × Fin 4 => awaitP c p.1 3 p.2) order >>= fun _ => pure ⟨⟩ from by
      unfold tailP; simp only [bind_pure_unit]]
  unfold Before
  iintro ⟨HT, HX, HA, H0, H1, H2, H3⟩ Hk
  iapply (cols_loop m ρ K c (stageL 1 ++ (stageL 2 ++ stageL 3)) _ Q) $$ [HT HX HA H0]
  · isplitl [HT HX]
    · isplitl [HT]; · iexact HT
      iexact HX
    iapply (Entails.of_eq ((bigSepL_sep cols (fun j => anyOwn (F := F) c (accCol j)) _).trans
      (congrArg (fun P => iprop(_ ∗ P)) (bigSepL_nest cols trees (fun p => iprop(Ready c (p.1, 0, p.2) ∗ anyOwn (F := F) c (sndS p.1 0 p.2)))))).symm)
    isplitl [HA]; · iexact HA
    iexact H0
  iintro ⟨⟨HT, HX⟩, HB⟩
  ihave HB := (Entails.of_eq (bcols_eq m ρ c)) $$ HB
  unfold B0
  icases HB with ⟨HK, HB⟩
  ihave HB := (Entails.of_eq (per_sep (fun t j => Sent c (t, 0, j)) (fun t j => own c (accSend c t j) (dotAt m ρ c t (flip (bit c t)) j)))) $$ HB
  icases HB with ⟨HM, HS⟩
  ihave HS := (per_mono (Ψ := fun t j => anyOwn c (accSend c t j)) (fun t j => any_of_own c _ _)) $$ HS
  -- the second stage
  ihave H1 := (Entails.of_eq (per_sep (fun t j => Ready c (t, 1, j)) (fun t j => anyOwn (F := F) c (sndS t 1 j)))) $$ H1
  icases H1 with ⟨HR, HB⟩
  iapply (mid_loop m ρ K c 0 (stageL 2 ++ stageL 3) (by
    intro e he
    rcases List.mem_append.mp he with he | he
    · exact later 2 0 (by decide) e he
    · exact later 3 0 (by decide) e he) order _ Q) $$ [HT HM HR HB HK]
  · isplitl [HT]; · iexact HT
    iapply (Entails.of_eq ((per_sep (fun t j => Sent c (t, 0, j)) _).trans (congrArg (fun P => iprop(_ ∗ P))
      ((per_sep (fun t j => Ready c (t, 1, j)) _).trans (congrArg (fun P => iprop(_ ∗ P))
        (per_sep (fun t j => anyOwn (F := F) c (sndS t 1 j)) (fun t j => own c (accKeep c t j) (keepC m ρ c (t, 0, j)))))))).symm)
    isplitl [HM]; · iexact HM
    isplitl [HR]; · iexact HR
    isplitl [HB]; · iexact HB
    iexact HK
  iintro ⟨HT, HB⟩
  ihave HB := (Entails.of_eq (b1_eq m ρ c 0)) $$ HB
  icases HB with ⟨HO0, HM, HK⟩
  -- the third
  ihave H2 := (Entails.of_eq (per_sep (fun t j => Ready c (t, 2, j)) (fun t j => anyOwn (F := F) c (sndS t 2 j)))) $$ H2
  icases H2 with ⟨HR, HB⟩
  iapply (mid_loop m ρ K c 1 (stageL 3) (later 3 1 (by decide)) order _ Q) $$ [HT HM HR HB HK]
  · isplitl [HT]; · iexact HT
    iapply (Entails.of_eq ((per_sep (fun t j => Sent c (t, 1, j)) _).trans (congrArg (fun P => iprop(_ ∗ P))
      ((per_sep (fun t j => Ready c (t, 2, j)) _).trans (congrArg (fun P => iprop(_ ∗ P))
        (per_sep (fun t j => anyOwn (F := F) c (sndS t 2 j)) (fun t j => own c (accKeep c t j) (keepC m ρ c (t, 1, j)))))))).symm)
    isplitl [HM]; · iexact HM
    isplitl [HR]; · iexact HR
    isplitl [HB]; · iexact HB
    iexact HK
  iintro ⟨HT, HB⟩
  ihave HB := (Entails.of_eq (b1_eq m ρ c 1)) $$ HB
  icases HB with ⟨HO1, HM, HK⟩
  -- the last sum
  ihave H3 := (Entails.of_eq (per_sep (fun t j => Ready c (t, 3, j)) (fun t j => anyOwn (F := F) c (outKeep c t j)))) $$ H3
  icases H3 with ⟨HR, HB⟩
  iapply (st3_loop m ρ K c order _ Q) $$ [HT HM HR HB HK]
  · isplitl [HT]; · iexact HT
    iapply (Entails.of_eq ((per_sep (fun t j => Sent c (t, 2, j)) _).trans (congrArg (fun P => iprop(_ ∗ P))
      ((per_sep (fun t j => Ready c (t, 3, j)) _).trans (congrArg (fun P => iprop(_ ∗ P))
        (per_sep (fun t j => anyOwn (F := F) c (outKeep c t j)) (fun t j => own c (accKeep c t j) (keepC m ρ c (t, 2, j)))))))).symm)
    isplitl [HM]; · iexact HM
    isplitl [HR]; · iexact HR
    isplitl [HB]; · iexact HB
    iexact HK
  iintro ⟨HT, HB⟩
  ihave HB := (Entails.of_eq (b3_eq m ρ c)) $$ HB
  icases HB with ⟨HO2, HM, HK⟩
  ihave HK := (per_mono (Ψ := fun t j => anyOwn c (accKeep c t j)) (fun t j => any_of_own c _ _)) $$ HK
  -- the last messages
  iapply (last_loop m ρ K c order _ Q) $$ [HT HM]
  · isplitl [HT] <;> iassumption
  iintro ⟨HT, HO3⟩
  iapply Hk
  isplitl [HT]; · iexact HT
  isplitl [HX]; · iexact HX
  unfold After
  isplitl [HK HS]
  · iapply (Entails.of_eq (per_sep (fun t j => anyOwn (F := F) c (accKeep c t j)) (fun t j => anyOwn c (accSend c t j))).symm)
    isplitl [HK]; · iexact HK
    iexact HS
  isplitl [HO0]; · iexact HO0
  isplitl [HO1]; · iexact HO1
  isplitl [HO2]; · iexact HO2
  iexact HO3

end Cert.KernelIdeal.Ring
-- ==== Proof.ProgEq.lean ====
/- The printed body is the program over its loop indices. -/
module

public import proofs.«01_k».proof.Proof.Prog
public import proofs.«01_k».proof.Proof.Gen.KernelIdeal.Points

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

theorem body_eq : bodyAt0 (F := F) ⟨0, Nat.zero_lt_one⟩ = bodyP (F := F) := by
  sl_kernel_rfl

end Cert.KernelIdeal.Ring
-- ==== Proof.Body.lean ====
/- The kernel's body: what it starts from, what it ends with, and that it gets there. -/
module

public import proofs.«01_k».proof.Proof.Main
public import proofs.«01_k».proof.Proof.ProgEq
public import proofs.«01_k».proof.Proof.Gen.KernelIdeal.Points
public import proofs.«01_k».proof.Proof.Gen.KernelIdeal.Launch

@[expose] public section

noncomputable section

namespace Cert.KernelIdeal.Ring

open Idealize.ShloMosaic Idealize.ShloMosaic.TcCoe
open Idealize.ShloMosaic.Pipeline (Dat BodyObligation Window)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Bool × X) → ℕ) (c : Dev nD)

/-! ## All exchanges at once, stage by stage -/

theorem stages_eq (Φ : X → sProp 𝕄) : bigSep Finset.univ Φ
    = iprop((per fun t j => Φ (t, 0, j)) ∗ (per fun t j => Φ (t, 1, j)) ∗ (per fun t j => Φ (t, 2, j)) ∗ per fun t j => Φ (t, 3, j)) := by
  rw [bigSep_univ_eq_bigSepL allL (by decide) (by decide) Φ]
  unfold allL
  rw [bigSepL_append, bigSepL_append, bigSepL_append]
  unfold stageL
  rw [bigSepL_map, bigSepL_map, bigSepL_map, bigSepL_map]

/-- The exchanges across each axis. -/
theorem axes_eq (Φ : X → sProp 𝕄) :
    bigSep Finset.univ Φ = bigSep Finset.univ fun a : Fin 3 => bigSep (Finset.univ.filter fun e : X => xax e = a) Φ := by
  rw [bigSep_fiberwise Finset.univ xax Φ, show (Finset.univ : Finset X).image xax = Finset.univ from by decide]

/-- The landing slots a device lends. -/
def lend : sProp 𝕄 := bigSep Finset.univ fun e : X => anyOwn (F := F) c (dstX (xp e c) e)

theorem lend_eq : lend (F := F) c = bigSep Finset.univ fun a : Fin 3 => barPay (F := F) (partner a c) a := by
  unfold lend barPay
  rw [axes_eq]
  refine bigSep_congr fun a _ => bigSep_congr fun e he => ?_
  have ha : xax e = a := (Finset.mem_filter.mp he).2
  subst ha
  show anyOwn c (dstX (xp e c) e) = anyOwn (xp e (xp e c)) (dstX (xp e c) e)
  rw [show xp e (xp e c) = c from partner_partner _ _]
theorem slots_eq : (bigSep Finset.univ fun a : Fin 3 => barPay (F := F) c a) = slots c := by
  unfold slots barPay; rw [← axes_eq]

/-! ## The scratch buffers -/

def scratch : sProp 𝕄 :=
  iprop(anyOwn (F := F) c accM ∗ (bigSep Finset.univ fun s : Fin 3 => bigSep Finset.univ fun t : Fin 3 => anyOwn (F := F) c (sndM t s))
    ∗ bigSep Finset.univ fun s : Fin 3 => bigSep Finset.univ fun t : Fin 3 => anyOwn (F := F) c (rcvM t s))

theorem fin3_eq (Φ : Fin 3 → sProp 𝕄) : bigSep Finset.univ Φ = iprop(Φ 0 ∗ Φ 1 ∗ Φ 2) :=
  bigSep_univ_eq_bigSepL [0, 1, 2] (by decide) (by decide) Φ

theorem scratch_eq : scratch (F := F) c = iprop(anyOwn (F := F) c accM
    ∗ ((bigSep Finset.univ fun t : Fin 3 => anyOwn (F := F) c (sndM t 0)) ∗ (bigSep Finset.univ fun t : Fin 3 => anyOwn (F := F) c (sndM t 1))
      ∗ bigSep Finset.univ fun t : Fin 3 => anyOwn (F := F) c (sndM t 2))
    ∗ ((bigSep Finset.univ fun t : Fin 3 => anyOwn (F := F) c (rcvM t 0)) ∗ (bigSep Finset.univ fun t : Fin 3 => anyOwn (F := F) c (rcvM t 1))
      ∗ bigSep Finset.univ fun t : Fin 3 => anyOwn (F := F) c (rcvM t 2))) := by
  unfold scratch
  rw [fin3_eq (fun s => bigSep Finset.univ fun t : Fin 3 => anyOwn (F := F) c (sndM t s)),
    fin3_eq (fun s => bigSep Finset.univ fun t : Fin 3 => anyOwn (F := F) c (rcvM t s))]

theorem per_nest (Φ : Fin 3 → Fin 4 → sProp 𝕄) :
    per Φ = bigSep Finset.univ fun t : Fin 3 => bigSep Finset.univ fun j : Fin 4 => Φ t j := by
  rw [per_eq, BI.bigSep_univ_prod]

theorem snd_slices (s : Fin 3) : (bigSep Finset.univ fun t : Fin 3 => anyOwn (F := F) c (sndM t s)) ⊢ per fun t j => anyOwn (F := F) c (sndS t s j) := by
  rw [per_nest]; exact BI.bigSep_mono fun t _ => snd_divide c t s
theorem rcv_slices (s : Fin 3) : (bigSep Finset.univ fun t : Fin 3 => anyOwn (F := F) c (rcvM t s)) ⊢ per fun t j => anyOwn (F := F) c (rcvS t s j) := by
  rw [per_nest]; exact BI.bigSep_mono fun t _ => rcv_divide c t s
theorem snd_whole (s : Fin 3) : (per fun t j => anyOwn (F := F) c (sndS t s j)) ⊢ bigSep Finset.univ fun t : Fin 3 => anyOwn (F := F) c (sndM t s) := by
  rw [per_nest]; exact BI.bigSep_mono fun t _ => snd_join c t s
theorem rcv_whole (s : Fin 3) : (per fun t j => anyOwn (F := F) c (rcvS t s j)) ⊢ bigSep Finset.univ fun t : Fin 3 => anyOwn (F := F) c (rcvM t s) := by
  rw [per_nest]; exact BI.bigSep_mono fun t _ => rcv_join c t s

/-- The slices the sends read, before anything is written. -/
def Srcs : sProp 𝕄 :=
  iprop((bigSepL cols fun j => anyOwn (F := F) c (accCol j))
    ∗ (per fun t j => anyOwn (F := F) c (sndS t 0 j)) ∗ (per fun t j => anyOwn (F := F) c (sndS t 1 j))
    ∗ (per fun t j => anyOwn (F := F) c (sndS t 2 j)) ∗ per fun t j => anyOwn (F := F) c (outKeep c t j))

theorem lend_stage (s : Fin 3) : (per fun t j => anyOwn (F := F) c (rcvS t s j))
    = per fun t j => anyOwn (F := F) c (dstX (xp (t, s.castSucc, j) c) (t, s.castSucc, j)) :=
  congrArg (bigSepL order) (funext fun p => congrArg (anyOwn c) (dstV_eq (xp (p.1, s.castSucc, p.2) c) p.1 s p.2).symm)

theorem xp_last (t : Fin 3) (j : Fin 4) : xp (t, (3 : Fin 4), j) c = partner t c := by
  have : ∀ t : Fin 3, ax t 3 = t := by decide
  exact congrArg (fun a => partner a c) (this t)

/-- The buffers divide into what a device sends from and what it lends. -/
theorem divide : iprop(scratch (F := F) c ∗ anyOwn (F := F) c outM) ⊢ iprop(Srcs (F := F) c ∗ lend (F := F) c) := by
  unfold Srcs lend
  rw [scratch_eq, stages_eq]
  iintro ⟨⟨HA, ⟨S0, S1, S2⟩, R0, R1, R2⟩, HO⟩
  ihave HA := (acc_divide (F := F) c) $$ HA
  ihave S0 := (snd_slices (F := F) c 0) $$ S0
  ihave S1 := (snd_slices (F := F) c 1) $$ S1
  ihave S2 := (snd_slices (F := F) c 2) $$ S2
  ihave R0 := ((rcv_slices (F := F) c 0).trans (Entails.of_eq (lend_stage c 0))) $$ R0
  ihave R1 := ((rcv_slices (F := F) c 1).trans (Entails.of_eq (lend_stage c 1))) $$ R1
  ihave R2 := ((rcv_slices (F := F) c 2).trans (Entails.of_eq (lend_stage c 2))) $$ R2
  ihave HO := ((out_divide (F := F) c).trans (Entails.of_eq ((per_eq (fun t j => iprop(anyOwn (F := F) c (outKeep c t j)
    ∗ anyOwn (F := F) c (dstV (partner t c) t 3 j)))).symm.trans (per_sep _ _)))) $$ HO
  icases HO with ⟨HK, HO⟩
  isplitl [HA S0 S1 S2 HK]
  · isplitl [HA]; · iapply (Entails.of_eq (bigSep_univ_eq_bigSepL cols (by decide) (by decide) _)); iexact HA
    isplitl [S0]; · iexact S0
    isplitl [S1]; · iexact S1
    isplitl [S2]; · iexact S2
    iexact HK
  isplitl [R0]; · iexact R0
  isplitl [R1]; · iexact R1
  isplitl [R2]; · iexact R2
  iapply (Entails.of_eq (congrArg (bigSepL order) (funext fun p : Fin 3 × Fin 4 => congrArg (fun d => anyOwn (F := F) c (dstV d p.1 3 p.2)) (xp_last c p.1 p.2).symm)))
  iexact HO

/-! ## And join again -/

/-- The cells of the exchanges, closed. -/
def closed : sProp 𝕄 := bigSep Finset.univ fun k : Bool × X => semVal (kcell (c, some k)) 0

theorem closed_eq : closed (F := F) c = bigSep Finset.univ fun e : X => Closed (F := F) c e := by
  unfold closed Closed
  rw [BI.bigSep_univ_prod, bigSep_univ_eq_bigSepL [false, true] (by decide) (by decide)]
  exact (BI.bigSep_sep' Finset.univ _ _).symm

theorem over_eq (s : Fin 4) : (per fun t j => Over m ρ c (t, s, j))
    = iprop((per fun t j => Closed (F := F) c (t, s, j)) ∗ (per fun t j => xPay m ρ c (false, (t, s, j))) ∗ per fun t j => xPay m ρ c (true, (t, s, j))) := by
  unfold Over
  exact (per_sep (fun t j => Closed (F := F) c (t, s, j)) _).trans (congrArg (fun P => iprop(_ ∗ P)) (per_sep _ _))

theorem over_any (s : Fin 3) (s' : Fin 4) (hs : s' = s.castSucc) : (per fun t j => Over m ρ c (t, s', j))
    ⊢ iprop((per fun t j => Closed (F := F) c (t, s', j)) ∗ (bigSep Finset.univ fun t : Fin 3 => anyOwn (F := F) c (sndM t s))
      ∗ bigSep Finset.univ fun t : Fin 3 => anyOwn (F := F) c (rcvM t s)) := by
  subst hs
  rw [over_eq]
  iintro ⟨HC, HS, HR⟩
  isplitl [HC]; · iexact HC
  isplitl [HS]
  · iapply ((per_mono (Φ := fun t j => xPay m ρ c (false, (t, s.castSucc, j))) (Ψ := fun t j => anyOwn (F := F) c (sndS t s j)) (fun t j => by
      rw [xPay_send]
      show own c (srcV c t s.castSucc j) _ ⊢ _
      rw [srcV_eq]; exact any_of_own c _ _)).trans (snd_whole c s)); iexact HS
  · iapply ((per_mono (Φ := fun t j => xPay m ρ c (true, (t, s.castSucc, j))) (Ψ := fun t j => anyOwn (F := F) c (rcvS t s j)) (fun t j => by
      rw [recv_eq]; exact any_of_own c _ _)).trans (rcv_whole c s)); iexact HR

theorem join : After m ρ c ⊢ iprop(closed (F := F) c ∗ scratch (F := F) c ∗ own c outM (outAt m ρ c)) := by
  unfold After
  rw [closed_eq, scratch_eq, stages_eq]
  iintro ⟨HA, H0, H1, H2, H3⟩
  ihave HA := ((Entails.of_eq (per_eq _)).trans (acc_join (F := F) c)) $$ HA
  ihave H0 := (over_any m ρ c 0 0 rfl) $$ H0
  icases H0 with ⟨C0, S0, R0⟩
  ihave H1 := (over_any m ρ c 1 1 rfl) $$ H1
  icases H1 with ⟨C1, S1, R1⟩
  ihave H2 := (over_any m ρ c 2 2 rfl) $$ H2
  icases H2 with ⟨C2, S2, R2⟩
  ihave H3 := ((Entails.of_eq (over_eq m ρ c 3)).trans (sep_mono_right ((Entails.of_eq ((per_sep _ _).symm.trans (per_eq _))).trans (out_join m ρ c)))) $$ H3
  icases H3 with ⟨C3, HO⟩
  isplitl [C0 C1 C2 C3]
  · isplitl [C0]; · iexact C0
    isplitl [C1]; · iexact C1
    isplitl [C2]; · iexact C2
    iexact C3
  isplitl [HA S0 S1 S2 R0 R1 R2]
  · isplitl [HA]; · iexact HA
    isplitl [S0 S1 S2]
    · isplitl [S0]; · iexact S0
      isplitl [S1]; · iexact S1
      iexact S2
    isplitl [R0]; · iexact R0
    isplitl [R1]; · iexact R1
    iexact R2
  iexact HO

/-! ## The barrier -/

theorem signal_at (a : Fin 3) (n : Dev nD) (hn : n = partner a c) (l : List (Fin 3)) (O : CellTallies nD τ sig Unit) (W : Waits sig Unit)
    {α : Type} (k : PUnit → KP F α) (Q : α → sProp 𝕄) :
    iprop(recs m ρ K ∗ dutyTok ER (barCell (partner a c)) 0 a ∗ barPay (F := F) (partner a c) a ∗ owes (c : Thread nD τ) (owedB c (a :: l) + O) W)
      ⊢ iprop((owes (c : Thread nD τ) (owedB c l + O) W -∗ runs c (k ⟨⟩) Q) -∗ runs c (semSignalWord n barS 1#32 >>= k) Q) := by
  subst hn
  simp only [semSignalWord, Prog.lift, Prog.bind_op, Prog.bind_ret]
  iintro ⟨#HR, Ht, HP, HO⟩ Hk
  iapply (Rounds.wp_signal 𝒱₀ ER (Rd m ρ) (c : Thread nD τ) none (dst := (partner a c : Thread nD τ)) (κ := K (partner a c, none))
      (d := a) (by rw [duties_bar]; exact Finset.mem_univ _) ((amount_bar m ρ (partner a c) a).trans (by decide)) () (owedB c l + O)
      (by show (tallyAt (barCell (partner a c)) () 1 + owedB c l) + O = _; rw [add_assoc, add_comm]; rfl))
    $$ [HO Ht HP]
  · isplitr; · iapply (inv_at m ρ K (partner a c, none)); iexact HR
    isplitl [HO]; · iexact HO
    isplitl [Ht]; · iexact Ht
    isplitl [HP]; · iapply (Entails.of_eq (payload_bar m ρ (partner a c) a).symm); iexact HP
    iapply (reached_at m ρ K (partner a c, none)); iexact HR
  iintro HO
  iapply Hk
  iexact HO

theorem signals (l : List (Fin 3)) (O : CellTallies nD τ sig Unit) {α : Type} (k : PUnit → KP F α) (Q : α → sProp 𝕄) :
    iprop((recs m ρ K ∗ ∃ W, owes (c : Thread nD τ) (owedB c l + O) W)
        ∗ bigSepL l fun a => iprop(dutyTok ER (barCell (partner a c)) 0 a ∗ barPay (F := F) (partner a c) a))
      ⊢ iprop(((recs m ρ K ∗ ∃ W, owes (c : Thread nD τ) (owedB c [] + O) W) ∗ (bigSepL l fun _ => iprop(emp)) -∗ runs c (k ⟨⟩) Q)
        -∗ runs c (seqL (signalP c) l >>= k) Q) :=
  seq_rule c _ (fun l => iprop(recs m ρ K ∗ ∃ W, owes (c : Thread nD τ) (owedB c l + O) W)) _ _ (fun a l _ k Q => by
    iintro ⟨⟨#HR, %W, HO⟩, Ht, HP⟩ Hk
    iapply (signal_at m ρ K c a (devB c a) (devB_eq c a) l O W k Q) $$ [HO Ht HP]
    · isplitr; · iexact HR
      isplitl [Ht]; · iexact Ht
      isplitl [HP] <;> iassumption
    iintro HO
    iapply Hk
    isplitl [HO]
    · isplitr; · iexact HR
      iexists W; iexact HO
    iempintro) l k Q

/-- The barrier wait: the landing slots of the partners. -/
theorem barrier (O : List X) (W : Waits sig Unit) {α : Type} (k : PUnit → KP F α) (Q : α → sProp 𝕄) :
    iprop(recs m ρ K ∗ levAts L lv ∗ cred (tallyAt (barCell c) () 3) ∗ atPos ER (barCell c) 0 ∅ 0 ∗ owes (c : Thread nD τ) (owedL c O) W)
      ⊢ iprop((slots (F := F) c ∗ semVal (barCell c) 0 ∗ (∃ W', owes (c : Thread nD τ) (owedL c O) W') -∗ runs c (k ⟨⟩) Q)
        -∗ runs c (semWaitWord barS 3#32 >>= k) Q) := by
  simp only [semWaitWord, Prog.lift, Prog.bind_op, Prog.bind_ret]
  iintro ⟨#HR, #HL, HC, Hat, HO⟩ Hk
  iapply (Rounds.wp_wait_rest_token 𝒱₀ ER (Rd m ρ) (c : Thread nD τ) none (κ := K (c, none))
      (wpE_semWait_eq 𝒱₀ (c : Thread nD τ) none Set.univ) (Set.mem_univ _) () (O := owedL c O) (W := W) (R := 0) (m := 0) (T := ∅)
      (by rw [expect_bar]; decide)) $$ [HC HO Hat]
  · isplitr; · iapply (inv_at m ρ K (c, none)); iexact HR
    isplitl [HC]; · iexact HC
    isplitl [HO]; · iexact HO
    isplitr; · iapply (mayWait_L c (.reg barS) 1 (lv_bar c).le O (fun e _ => by omega)); iexact HL
    iexact Hat
  iintro ⟨HO, Hat, -, Hp⟩
  ihave Hp := (Entails.of_eq ((rest_bar m ρ c).trans (slots_eq c))) $$ Hp
  imod (Rounds.cell_close ER (Rd m ρ) (Set.mem_univ (K (c, none))) (fun h => h) (R := 0 + 1) (duties_later m ρ (barCell c))) $$ [Hat] with Hz
  · isplitr; · iapply (inv_at m ρ K (c, none)); iexact HR
    iexact Hat
  iapply Hk
  isplitl [Hp]; · iexact Hp
  isplitl [Hz]; · iexact Hz
  iexists _; iexact HO

end Cert.KernelIdeal.Ring
-- ==== Proof.Run.lean ====
/- One device's run: from its share of the launch to its result, its buffers and its closed cells. -/
module

public import proofs.«01_k».proof.Proof.Body

@[expose] public section

noncomputable section

namespace Cert.KernelIdeal.Ring

open Idealize.ShloMosaic Idealize.ShloMosaic.TcCoe
open Idealize.ShloMosaic.Pipeline (Dat BodyObligation Window)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Bool × X) → ℕ) (c : Dev nD)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A device's positions at its own cells. -/
def stand : sProp 𝕄 :=
  iprop(atPos ER (barCell c) 0 ∅ 0
    ∗ (bigSep Finset.univ fun e : X => atPos ER (kcell (c, some (false, e))) 0 ∅ 0)
    ∗ bigSep Finset.univ fun e : X => atPos ER (kcell (c, some (true, e))) 0 ∅ 0)
/-- The tokens of the duties it pays. -/
def pays : sProp 𝕄 :=
  iprop((bigSep Finset.univ fun a : Fin 3 => dutyTok ER (barCell (partner a c)) 0 a)
    ∗ (bigSep Finset.univ fun e : X => dutyTok ER (kcell (c, some (false, e))) 0 0)
    ∗ bigSep Finset.univ fun e : X => dutyTok ER (kcell (xp e c, some (true, e))) 0 0)
/-- The credit its launch deals it. -/
def creds : sProp 𝕄 :=
  iprop(cred (tallyAt (barCell c) () 3) ∗ bigSep Finset.univ fun e : X => cred (tallyAt (kcell (c, some (true, e))) () (N e.1)))

def ghost : sProp 𝕄 := iprop(recs m ρ K ∗ stand (F := F) c ∗ pays (F := F) c)
def start : sProp 𝕄 := iprop((∃ K, ghost m ρ K c) ∗ creds (F := F) c ∗ levAts L lv)

def Φ₀ : sProp 𝕄 := iprop(start m ρ c ∗ scratch (F := F) c)
def Φ₁ : sProp 𝕄 := iprop(scratch (F := F) c ∗ closed (F := F) c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

/-- Every exchange is ready once the partners have lent their slots. -/
theorem ready :
    iprop((bigSep Finset.univ fun e : X => atPos ER (kcell (c, some (false, e))) 0 ∅ 0)
      ∗ (bigSep Finset.univ fun e : X => atPos ER (kcell (c, some (true, e))) 0 ∅ 0)
      ∗ (bigSep Finset.univ fun e : X => dutyTok ER (kcell (c, some (false, e))) 0 0)
      ∗ (bigSep Finset.univ fun e : X => dutyTok ER (kcell (xp e c, some (true, e))) 0 0)
      ∗ (bigSep Finset.univ fun e : X => cred (tallyAt (kcell (c, some (true, e))) () (N e.1)))
      ∗ slots (F := F) c)
      ⊢ (bigSep Finset.univ fun e : X => Ready (F := F) c e) := by
  unfold Ready Tok slots
  simp only [BI.bigSep_sep']
  iintro ⟨H1, H2, H3, H4, H5, H6⟩
  isplitl [H1 H2 H3 H4 H5]
  · isplitl [H1]; · iexact H1
    isplitl [H2]; · iexact H2
    isplitl [H3]; · iexact H3
    isplitl [H4]; · iexact H4
    iexact H5
  iexact H6

theorem before_intro : iprop((bigSep Finset.univ fun e : X => Ready (F := F) c e) ∗ Srcs (F := F) c) ⊢ Before (F := F) c := by
  rw [stages_eq]
  unfold Srcs Before
  iintro ⟨⟨R0, R1, R2, R3⟩, HA, S0, S1, S2, S3⟩
  isplitl [HA]; · iexact HA
  isplitl [R0 S0]; · iapply (Entails.of_eq (per_sep _ _).symm); isplitl [R0]; · iexact R0
                     iexact S0
  isplitl [R1 S1]; · iapply (Entails.of_eq (per_sep _ _).symm); isplitl [R1]; · iexact R1
                     iexact S1
  isplitl [R2 S2]; · iapply (Entails.of_eq (per_sep _ _).symm); isplitl [R2]; · iexact R2
                     iexact S2
  iapply (Entails.of_eq (per_sep _ _).symm); isplitl [R3]; · iexact R3
  iexact S3

def bodyPre : sProp 𝕄 :=
  iprop(Φ₀ m ρ c ∗ (dats m ρ 0 c).owesAt () t₀.castSucc
    ∗ (∃ d, own c xM ((dats m ρ 0 c).before (0 : Fin 3) t₀ d))
    ∗ (∃ d, own c wM ((dats m ρ 0 c).before (1 : Fin 3) t₀ d))
    ∗ (∃ d, own c outM ((dats m ρ 0 c).before (2 : Fin 3) t₀ d)))
def bodyPost : sProp 𝕄 :=
  iprop(Φ₁ (F := F) c ∗ (dats m ρ 0 c).owesAt () t₀.succ ∗ own c xM (xstg m ρ c) ∗ own c wM (wstg m ρ c) ∗ own c outM (outAt m ρ c))

theorem main_eq : (mainP c : KP F PUnit) = seqL (signalP c) [0, 1, 2] >>= fun _ => semWaitWord barS 3#32 >>= fun _ => tailP c := rfl

theorem main_rule (W : Waits sig Unit) (Q : PUnit → sProp 𝕄) :
    iprop((ghost m ρ K c ∗ creds (F := F) c ∗ levAts L lv ∗ scratch (F := F) c) ∗ owes (c : Thread nD τ) (O₀ c) W ∗ Args m ρ c ∗ anyOwn (F := F) c outM)
      ⊢ iprop((Φ₁ (F := F) c ∗ (∃ W', owes (c : Thread nD τ) 0 W') ∗ Args m ρ c ∗ own c outM (outAt m ρ c) -∗ Q ⟨⟩) -∗ runs c (mainP c) Q) := by
  rw [main_eq]
  unfold ghost stand pays creds
  iintro ⟨⟨⟨#HR, ⟨PB, PS, PV⟩, DB, DS, DV⟩, ⟨CB, CV⟩, #HL, HS⟩, HO, HX, HY⟩ Hk
  ihave HD := (divide (F := F) c) $$ [HS HY]
  · isplitl [HS] <;> iassumption
  icases HD with ⟨HS, HLd⟩
  ihave HLd := (Entails.of_eq (lend_eq (F := F) c)) $$ HLd
  iapply (signals m ρ K c [0, 1, 2] (owedL c allL) _ Q) $$ [HO DB HLd]
  · isplitl [HO]
    · isplitr; · iexact HR
      iexists W; iexact HO
    iapply (Entails.of_eq ((BI.bigSep_sep' Finset.univ _ _).symm.trans (bigSep_univ_eq_bigSepL [0, 1, 2] (by decide) (by decide)
      (fun a : Fin 3 => iprop(dutyTok ER (barCell (partner a c)) 0 a ∗ barPay (F := F) (partner a c) a)))))
    isplitl [DB] <;> iassumption
  iintro ⟨⟨-, %W1, HO⟩, -⟩
  ihave HO := (Entails.of_eq (congrArg (fun O => owes (c : Thread nD τ) O W1) (show owedB c [] + owedL c allL = owedL c allL from zero_add _))) $$ HO
  iapply (barrier m ρ K c allL W1 _ Q) $$ [CB PB HO]
  · isplitr; · iexact HR
    isplitr; · iexact HL
    isplitl [CB]; · iexact CB
    isplitl [PB]; · iexact PB
    iexact HO
  iintro ⟨HSl, HZ, HO⟩
  ihave HRd := (ready (F := F) c) $$ [PS PV DS DV CV HSl]
  · isplitl [PS]; · iexact PS
    isplitl [PV]; · iexact PV
    isplitl [DS]; · iexact DS
    isplitl [DV]; · iexact DV
    isplitl [CV]; · iexact CV
    iexact HSl
  ihave HB := (before_intro (F := F) c) $$ [HRd HS]
  · isplitl [HRd] <;> iassumption
  iapply (tail_rule m ρ K c Q) $$ [HO HX HB]
  · isplitl [HO]
    · unfold Thr
      isplitr; · iexact HR
      isplitr; · iexact HL
      iexact HO
    isplitl [HX] <;> iassumption
  unfold Thr
  iintro ⟨⟨-, -, HO⟩, HX, HA⟩
  ihave HJ := (join m ρ c) $$ HA
  icases HJ with ⟨HC, HS, HY⟩
  iapply (show Q ⟨⟩ ⊢ runs c (pure ⟨⟩) Q from by
    rw [Prog.pure_eq_ret]; unfold runs; rw [wp_ret]; exact BI.fupd_intro)
  iapply Hk
  unfold Φ₁
  isplitl [HC HS HZ]
  · isplitl [HS]; · iexact HS
    isplitl [HC] <;> iassumption
  isplitl [HO]; · iexact HO
  isplitl [HX] <;> iassumption

theorem before_x (d) : (dats m ρ 0 c).before (0 : Fin 3) t₀ d = xstg m ρ c := by
  unfold Dat.before; rw [if_pos (fetch0_0 t₀)]; rfl
theorem before_w (d) : (dats m ρ 0 c).before (1 : Fin 3) t₀ d = wstg m ρ c := by
  unfold Dat.before; rw [if_pos (fetch0_1 t₀)]; rfl

theorem sound_body : bodyPre m ρ c ⊢ runs c (bodyAt0 (F := F) t₀) (fun _ => bodyPost m ρ c) := by
  rw [show bodyAt0 (F := F) t₀ = bodyP from body_eq]
  unfold bodyP runs
  simp only [Prog.lift, Prog.bind_op, Prog.bind_ret, wp_deviceId]
  unfold bodyPre Φ₀ start Dat.owesAt Pipeline.owesWithin
  iintro ⟨⟨⟨⟨%K, HG⟩, HC, HL⟩, HS⟩, ⟨%W, %hW, HO⟩, ⟨%d0, HX⟩, ⟨%d1, HW⟩, ⟨%d2, HY⟩⟩
  ihave HX := (Entails.of_eq (congrArg (own c xM) (before_x m ρ c d0))) $$ HX
  ihave HW := (Entails.of_eq (congrArg (own c wM) (before_w m ρ c d1))) $$ HW
  iapply (main_rule m ρ K c W _) $$ [HG HC HL HS HO HX HW HY]
  · isplitl [HG HC HL HS]
    · isplitl [HG]; · iexact HG
      isplitl [HC]; · iexact HC
      isplitl [HL] <;> iassumption
    isplitl [HO]; · iexact HO
    isplitl [HX HW]
    · unfold Args; isplitl [HX] <;> iassumption
    iapply (any_of_own c outM _); iexact HY
  unfold Args bodyPost Dat.owesAt Pipeline.owesWithin
  iintro ⟨HP, ⟨%W', HO⟩, ⟨HX, HW⟩, HY⟩
  isplitl [HP]; · iexact HP
  isplitl [HO]
  · iexists W'
    isplitr; · ipureintro; exact fun _ _ => Or.inl trivial
    iexact HO
  isplitl [HX]; · iexact HX
  isplitl [HW] <;> iassumption

theorem Φ_first : (dats m ρ 0 c).Φ t₀.castSucc = Φ₀ m ρ c := rfl
theorem Φ_last : (dats m ρ 0 c).Φ t₀.succ = Φ₁ c := rfl
theorem after_x : (dats m ρ 0 c).after (0 : Fin 3) t₀ = xstg m ρ c := rfl
theorem after_w : (dats m ρ 0 c).after (1 : Fin 3) t₀ = wstg m ρ c := rfl
theorem after_out : (dats m ρ 0 c).after (2 : Fin 3) t₀ = outAt m ρ c := rfl

theorem defs_body : defs₀ (F := F) Proc.tc 0 (t₀, cfg0.slots t₀) = bodyAt0 (F := F) t₀ := by
  sl_kernel_rfl

set_option maxRecDepth 4000 in
theorem body_obligation : BodyObligation (dats (F := F) m ρ 0 c) (defs₀ (F := F)) 𝒱₀ () Set.univ := fun t => by
  rw [fin_N t]
  rw [bigSep_W, bigSep_W]
  have h := sound_body m ρ c
  rw [← defs_body] at h
  unfold bodyPre bodyPost runs own at h
  simp only [owns_whole_eq] at h ⊢
  rw [Φ_first, Φ_last, after_x, after_w, after_out]
  convert h using 1

end Cert.KernelIdeal.Ring
-- ==== Proof.Launch.lean ====
/- The launch: the cells allocated, the tokens and the credit dealt to the devices that use them, and the run. -/
module

public import proofs.«01_k».proof.Proof.Run
public import Idealize.ShloMosaic.Lib.Pipeline.CollectiveSegs

@[expose] public section

noncomputable section

namespace Cert.KernelIdeal.Ring

open Idealize.ShloMosaic Idealize.ShloMosaic.TcCoe
open Idealize.ShloMosaic.Pipeline (Dat BodyObligation Window)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Bool × X) → ℕ) (c : Dev nD)

theorem ownSemFacts : Pipeline.OwnSemFacts cfg0.spec osem := by decide +kernel

theorem share_eq (w : Fin cfg0.W) : (dats m ρ 0 c).share w = fullShare := by unfold Dat.share; split <;> rfl

/-! ## Cells and tokens -/

theorem dev_of_cell {a b : Dev nD} {u v : SemLoc sig} (h : (((a : Thread nD τ), u) : GSem nD τ sig) = ((b : Thread nD τ), v)) : a = b :=
  congrArg (fun g : GSem nD τ sig => g.1.1) h

theorem kcell_injective : Function.Injective (kcell : Dev nD × Option (Bool × X) → GSem nD τ sig) := by
  rintro ⟨a, k⟩ ⟨b, k'⟩ h
  exact Prod.ext (dev_of_cell h) (csem_injective (congrArg Prod.snd h))
def cellSet : Finset (GSem nD τ sig) := Finset.univ.map ⟨kcell, kcell_injective⟩

/-- The tokens minted at a device's own cells: one for each unit of its barrier, one for each of its other cells. -/
abbrev tokOf (ck : Dev nD × (Fin 3 ⊕ Bool × X)) : GSem nD τ sig × ℕ × Fin 3 := match ck.2 with
  | .inl a => (barCell ck.1, 0, a)
  | .inr k => (kcell (ck.1, some k), 0, 0)
theorem tokOf_injective : Function.Injective (tokOf : Dev nD × (Fin 3 ⊕ Bool × X) → GSem nD τ sig × ℕ × Fin 3) := by
  rintro ⟨d, a | k⟩ ⟨d', b | k'⟩ h
  · have h1 := dev_of_cell (congrArg Prod.fst h)
    have h2 : a = b := congrArg (fun x : GSem nD τ sig × ℕ × Fin 3 => x.2.2) h
    subst h1 h2; rfl
  · exact absurd (congrArg (fun x : GSem nD τ sig × ℕ × Fin 3 => x.1.2) h).symm (osem_ne_bar k')
  · exact absurd (congrArg (fun x : GSem nD τ sig × ℕ × Fin 3 => x.1.2) h) (osem_ne_bar k)
  · have h1 := dev_of_cell (congrArg Prod.fst h)
    have h2 : k = k' := osem_injective (congrArg (fun x : GSem nD τ sig × ℕ × Fin 3 => x.1.2) h)
    subst h1 h2; rfl
def tokSet : Finset (GSem nD τ sig × ℕ × Fin 3) := Finset.univ.map ⟨tokOf, tokOf_injective⟩

def u₀ : UU :=
  (initOf (Pipeline.cells cfgs cellOf_inj) (Pipeline.launchToks cfgs cellOf_inj), initOf cellSet tokSet)

def toks : sProp 𝕄 :=
  iprop((bigSep Finset.univ fun a : Fin 3 => dutyTok ER (barCell c) 0 a)
    ∗ (bigSep Finset.univ fun e : X => dutyTok ER (kcell (c, some (false, e))) 0 0)
    ∗ bigSep Finset.univ fun e : X => dutyTok ER (kcell (c, some (true, e))) 0 0)

def G : sProp 𝕄 :=
  iprop((bigSep Finset.univ fun k : Option (Bool × X) => roundState ER (Rd m ρ) (kcell (c, k)) 0)
    ∗ (bigSep Finset.univ fun k : Option (Bool × X) => atPos ER (kcell (c, k)) 0 ∅ 0)
    ∗ (bigSep Finset.univ fun k : Option (Bool × X) => reached ER (kcell (c, k)) 0) ∗ toks (F := F) c)
def G' : sProp 𝕄 := iprop(∃ K, ghost m ρ K c)

theorem bigSep_opt {ι : Type} [Fintype ι] [DecidableEq ι] (Φ : Option ι → sProp 𝕄) :
    bigSep Finset.univ Φ = iprop(Φ none ∗ bigSep Finset.univ fun i => Φ (some i)) := by
  rw [bigSep_univ_at Φ none]
  congr 1
  rw [show (Finset.univ : Finset (Option ι)).erase none = Finset.univ.map ⟨some, Option.some_injective ι⟩ from by
    ext o; cases o <;> simp, bigSep_map]; rfl
theorem bigSep_both (Φ : Bool × X → sProp 𝕄) :
    bigSep Finset.univ Φ = iprop((bigSep Finset.univ fun e : X => Φ (false, e)) ∗ bigSep Finset.univ fun e : X => Φ (true, e)) := by
  rw [BI.bigSep_univ_prod, bigSep_univ_eq_bigSepL [false, true] (by decide) (by decide)]; rfl
theorem bigSep_sum {α β : Type} [Fintype α] [DecidableEq α] [Fintype β] [DecidableEq β] (Φ : α ⊕ β → sProp 𝕄) :
    bigSep Finset.univ Φ = iprop((bigSep Finset.univ fun a => Φ (.inl a)) ∗ bigSep Finset.univ fun b => Φ (.inr b)) := by
  have h : (Finset.univ : Finset (α ⊕ β)) = (Finset.univ.map ⟨Sum.inl, Sum.inl_injective⟩) ∪ (Finset.univ.map ⟨Sum.inr, Sum.inr_injective⟩) := by
    ext x; cases x <;> simp
  rw [h, BI.bigSep_union (by
    rw [Finset.disjoint_left]; rintro x hx hy
    obtain ⟨a, -, rfl⟩ := Finset.mem_map.mp hx
    obtain ⟨b, -, hb⟩ := Finset.mem_map.mp hy
    cases hb), bigSep_map, bigSep_map]; rfl

theorem fund_own : BI.own (ER (initOf cellSet tokSet)) ⊢ (|==> bigSep Finset.univ (G m ρ) : sProp 𝕄) := by
  have hX (Φ : GSem nD τ sig → sProp 𝕄) :
      bigSep cellSet Φ = bigSep Finset.univ fun c : Dev nD => bigSep Finset.univ fun k : Option (Bool × X) => Φ (kcell (c, k)) := by
    unfold cellSet; rw [bigSep_map, BI.bigSep_univ_prod]; rfl
  have hT : bigSep tokSet (fun x => (dutyTok ER x.1 x.2.1 x.2.2 : sProp 𝕄)) = bigSep Finset.univ fun c : Dev nD => toks (F := F) c := by
    unfold tokSet; rw [bigSep_map, BI.bigSep_univ_prod]
    exact bigSep_congr fun c _ => by unfold toks; rw [bigSep_sum, bigSep_both]; rfl
  iintro HX
  imod (Rounds.fund ER (Rd m ρ) cellSet tokSet) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [BI.bigSep_sep']
  isplitl [Hst]; · iexact Hst
  isplitl [Hat]; · iexact Hat
  isplitl [Hr]; · iexact Hr
  iexact Htok

/-! ## The cells allocated -/

theorem ownSems0_eq : (Pipeline.ownSems0 (Ix := Unit) (Name := ℕ) (U := UU) (Lvl := ℕ) (Val := Elt F) (τ := τ) osem c : sProp 𝕄)
    = closed (F := F) c := rfl
theorem unscopedSems0_eq : (unscopedSems0 c : sProp 𝕄) = semVal (barCell c) 0 := by
  unfold unscopedSems0; rw [bigSep_eq_bigSepL_of_eq [SemLoc.reg barS] (by decide +kernel) (by decide +kernel)]; rfl

theorem core_alloc :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => atPos ER (kcell (c, k)) 0 ∅ 0) ∗ (bigSep Finset.univ fun k => reached ER (kcell (c, k)) 0) ∗ toks (F := F) c) := by
  rw [ownSems0_eq, unscopedSems0_eq]
  unfold G
  iintro ⟨Hos, Hus, Hst, Hat, Hr, Htok⟩
  imod (show iprop((bigSep Finset.univ fun k : Option (Bool × X) => semVal (kcell (c, k)) 0)
        ∗ bigSep Finset.univ fun k : Option (Bool × X) => roundState ER (Rd m ρ) (kcell (c, k)) 0)
      ⊢ (|={Set.univ}=> bigSep Finset.univ fun k => iprop(∃ κ : ℕ, cellInv ER (Rd m ρ) κ (kcell (c, k))) : sProp 𝕄) from by
        rw [← BI.bigSep_sep']
        exact (BI.bigSep_mono fun k _ => (Rounds.body_intro ER (Rd m ρ) (kcell (c, k))).trans inv_alloc).trans (bigSep_fupd _ _)) $$ [Hos Hus Hst] with Hinv
  · isplitl [Hos Hus]
    · iapply (Entails.of_eq (bigSep_opt (fun k : Option (Bool × X) => semVal (kcell (c, k)) 0)).symm)
      isplitl [Hus]; · iexact Hus
      unfold closed; iexact Hos
    iexact Hst
  imodintro
  isplitl [Hinv]; · iexact Hinv
  isplitl [Hat]; · iexact Hat
  isplitl [Hr] <;> iassumption

/-! ## Dealt to the devices that use them -/

/-- Crossing an axis, as a permutation of the devices. -/
def cross (a : Fin 3) : Dev nD ≃ Dev nD := ⟨partner a, partner a, partner_partner a, partner_partner a⟩

theorem swap_sep {I J : Type} [Fintype I] [DecidableEq I] [Fintype J] [DecidableEq J] (Φ : I → J → sProp 𝕄) :
    (bigSep Finset.univ fun i => bigSep Finset.univ fun j => Φ i j) = bigSep Finset.univ fun j => bigSep Finset.univ fun i => Φ i j := by
  rw [← BI.bigSep_univ_prod (fun p : I × J => Φ p.1 p.2), ← BI.bigSep_univ_prod (fun p : J × I => Φ p.2 p.1),
    bigSep_univ_equiv (Equiv.prodComm J I) (fun p : I × J => Φ p.1 p.2)]; rfl

theorem deal {I : Type} [Fintype I] [DecidableEq I] (ax : I → Fin 3) (Φ : I → Dev nD → sProp 𝕄) :
    (bigSep Finset.univ fun c => bigSep Finset.univ fun i => Φ i c) = bigSep Finset.univ fun c => bigSep Finset.univ fun i => Φ i (partner (ax i) c) := by
  rw [swap_sep, swap_sep (fun c i => Φ i (partner (ax i) c))]
  exact bigSep_congr fun i _ => bigSep_univ_equiv (cross (ax i)) (Φ i)

theorem toks_around : (bigSep Finset.univ fun c : Dev nD => toks (F := F) c) = bigSep Finset.univ fun c : Dev nD => pays (F := F) c := by
  unfold toks pays
  simp only [BI.bigSep_sep']
  rw [deal (fun a => a) (fun (a : Fin 3) (c : Dev nD) => (dutyTok ER (barCell c) 0 a : sProp 𝕄)),
    deal xax (fun (e : X) (c : Dev nD) => (dutyTok ER (kcell (c, some (true, e))) 0 0 : sProp 𝕄))]

theorem stand_intro : (bigSep Finset.univ fun k : Option (Bool × X) => (atPos ER (kcell (c, k)) 0 ∅ 0 : sProp 𝕄)) = stand (F := F) c := by
  rw [bigSep_opt, bigSep_both]; rfl

theorem ghost_intro : iprop(recs m ρ K ∗ stand (F := F) c ∗ pays (F := F) c) ⊢ G' m ρ c := by
  unfold G' ghost
  iintro H
  iexists K
  iexact H

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← BI.bigSep_sep']; exact BI.bigSep_mono h)

theorem regroup :
    (bigSep Finset.univ fun c : Dev nD => iprop((bigSep Finset.univ fun k => iprop(∃ κ : ℕ, cellInv ER (Rd m ρ) κ (kcell (c, k))))
        ∗ (bigSep Finset.univ fun k => atPos ER (kcell (c, k)) 0 ∅ 0) ∗ (bigSep Finset.univ fun k => reached ER (kcell (c, k)) 0) ∗ toks (F := F) c))
      ⊢ bigSep Finset.univ (G' m ρ) := by
  rw [BI.bigSep_sep', BI.bigSep_sep', BI.bigSep_sep', toks_around, bigSep_congr (s := Finset.univ) (fun (c : Dev nD) _ => stand_intro (F := F) c),
    ← BI.bigSep_univ_prod (fun ck : Dev nD × Option (Bool × X) => iprop(∃ κ : ℕ, cellInv ER (Rd m ρ) κ (kcell ck))),
    ← BI.bigSep_univ_prod (fun ck : Dev nD × Option (Bool × X) => (reached ER (kcell ck) 0 : sProp 𝕄))]
  iintro ⟨HI, Hat, #HR, Htok⟩
  ihave HK := (BI.bigSep_exists_pi Finset.univ (fun (ck : Dev nD × Option (Bool × X)) (κ : ℕ) => (cellInv ER (Rd m ρ) κ (kcell ck) : sProp 𝕄))) $$ HI
  icases HK with ⟨%K, #HI⟩
  iapply (with_persistent (R := recs m ρ K) (Φ := fun c => iprop(stand (F := F) c ∗ pays (F := F) c)) fun c _ => ghost_intro m ρ K c)
  isplitr
  · unfold recs; isplitl; · iexact HI
    iexact HR
  · iapply (Entails.of_eq (BI.bigSep_sep' Finset.univ (fun c : Dev nD => stand (F := F) c) (fun c => pays (F := F) c)).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((BI.bigSep_mono fun c _ => core_alloc m ρ c).trans (bigSep_fupd _ _)).trans (BI.fupd_mono (regroup m ρ))

/-! ## The credit -/

theorem partner_eq_iff {a : Fin 3} {d e : Dev nD} : Iff (e = partner a d) (d = partner a e) :=
  ⟨fun h => by rw [h, partner_partner], fun h => by rw [h, partner_partner]⟩

theorem owedB_x (d : Dev nD) (k : Bool × X) (l : List (Fin 3)) : owedB d l (kcell (c, some k)) = 0 := by
  induction l with
  | nil => rfl
  | cons a l ih =>
    unfold owedB
    rw [Pi.add_apply, ih, tallyAt_ne_cell (fun h => osem_ne_bar k (congrArg Prod.snd h)), add_zero]
theorem owedL_bar (d : Dev nD) (l : List X) : owedL d l (barCell c) = 0 := by
  induction l with
  | nil => rfl
  | cons a l ih =>
    unfold owedL
    rw [Pi.add_apply, ih, tallyAt_ne_cell (fun h => osem_ne_bar (true, a) (congrArg Prod.snd h).symm), add_zero]
theorem owedL_x (d : Dev nD) (e : X) (l : List X) (hl : l.Nodup) :
    owedL d l (kcell (c, some (true, e))) () = if e ∈ l then (if d = xp e c then N e.1 else 0) else 0 := by
  induction l with
  | nil => rfl
  | cons a l ih =>
    unfold owedL
    rw [Pi.add_apply, Finsupp.add_apply, ih (List.nodup_cons.mp hl).2, tallyAt_apply]
    by_cases h : e = a
    · subst h
      rw [if_neg (List.nodup_cons.mp hl).1, if_pos (List.mem_cons_self ..), add_zero]
      refine if_congr ⟨fun h => ?_, fun h => ?_⟩ rfl rfl
      · exact partner_eq_iff.mp (dev_of_cell h.1)
      · subst h; exact ⟨Prod.ext (congrArg (fun d : Dev nD => (d : Thread nD τ)) (partner_partner _ c).symm) rfl, rfl⟩
    · rw [if_neg (fun h' => h (congrArg Prod.snd (osem_injective (a₁ := (true, e)) (a₂ := (true, a)) (congrArg Prod.snd h'.1)))), zero_add]
      refine if_congr ⟨fun h' => List.mem_cons_of_mem _ h', fun h' => ?_⟩ rfl rfl
      exact (List.mem_cons.mp h').resolve_left h
theorem owedB_bar (d : Dev nD) (l : List (Fin 3)) :
    owedB d l (barCell c) () = (l.map fun a => if d = partner a c then 1 else 0).sum := by
  induction l with
  | nil => rfl
  | cons a l ih =>
    unfold owedB
    rw [Pi.add_apply, Finsupp.add_apply, ih, tallyAt_apply, List.map_cons, List.sum_cons]
    congr 1
    refine if_congr ⟨fun h => partner_eq_iff.mp (dev_of_cell h.1), fun h => ?_⟩ rfl rfl
    subst h; exact ⟨congrArg (fun d : Dev nD => barCell d) (partner_partner a c).symm, rfl⟩

theorem launch_bar :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  have h : ∀ d : Dev nD, O₀ d (barCell c) () = ([0, 1, 2].map fun a : Fin 3 => if d = partner a c then 1 else 0).sum := fun d => by
    unfold O₀; rw [Pi.add_apply, owedL_bar, add_zero, owedB_bar]
  rw [Finset.sum_congr rfl fun d _ => h d]
  simp only [List.map_cons, List.map_nil, List.sum_cons, List.sum_nil, Finset.sum_add_distrib, Finset.sum_ite_eq', Finset.mem_univ, if_true, Finset.sum_const_zero]
  rfl

theorem launch_x (e : X) :
    tallyOn (kcell (c, some (true, e))) (launchCredit (Pipeline.owing O₀) 0 (kcell (c, some (true, e))))
      = (tallyAt (kcell (c, some (true, e))) () (N e.1) : CellTallies nD τ sig Unit) := by
  unfold tallyAt; refine congrArg _ (Finsupp.ext fun u => ?_); cases u
  rw [Pipeline.launchCredit_owing, Finsupp.single_eq_same]
  have h : ∀ d : Dev nD, O₀ d (kcell (c, some (true, e))) () = if d = xp e c then N e.1 else 0 := fun d => by
    unfold O₀
    rw [Pi.add_apply, owedB_x, zero_add, owedL_x c d e allL (by decide), if_pos (show e ∈ allL from (by decide : ∀ e : X, e ∈ allL) e)]
  rw [Finset.sum_congr rfl fun d _ => h d, Finset.sum_ite_eq' Finset.univ (xp e c) fun _ => N e.1, if_pos (Finset.mem_univ _)]

theorem bigSep_sub {I : Type} [DecidableEq I] {S T : Finset I} (h : S ⊆ T) (Φ : I → sProp 𝕄) : bigSep T Φ ⊢ bigSep S Φ := by
  rw [← Finset.union_sdiff_of_subset h, BI.bigSep_union Finset.disjoint_sdiff]
  exact sep_elim_left

theorem creds_intro : (Pipeline.launchCred O₀ c : sProp 𝕄) ⊢ creds (F := F) c := by
  unfold Pipeline.launchCred creds
  rw [bigSep_univ_at _ (SemLoc.reg barS), launch_bar]
  refine sep_mono_right ?_
  have hi : Function.Injective (fun e : X => osem (true, e)) := fun a b h => congrArg Prod.snd (osem_injective h)
  refine (bigSep_sub (S := Finset.univ.map ⟨fun e : X => osem (true, e), hi⟩) (fun s hs => ?_) _).trans ?_
  · obtain ⟨e, -, rfl⟩ := Finset.mem_map.mp hs
    exact Finset.mem_erase.mpr ⟨osem_ne_bar (true, e), Finset.mem_univ _⟩
  · rw [bigSep_map]
    exact Entails.of_eq (bigSep_congr fun e _ => congrArg cred (launch_x c e))

/-! ## The side conditions -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem whole_any (b : Ref sig .tc) : (iprop(∃ f : Buf (Elt F) ((c : Thread nD τ).loc b), ((c : Thread nD τ).loc b) ↦{fullShare} f) : sProp 𝕄)
    = iprop(∃ A, owns (Ix := Unit) (Name := ℕ) (U := UU) (Lvl := ℕ) (c : Thread nD τ) (Memref.whole b) fullShare A) :=
  congrArg _ (funext fun f => by rw [owns_whole])

theorem sep_flat (P Q R : sProp 𝕄) : iprop((P ∗ Q) ∗ R) = iprop(P ∗ Q ∗ R) :=
  equiv_iff.mp ⟨BI.sep_assoc, BI.sep_assoc'⟩

theorem scratch_rest : (Pipeline.scopedRest (Ix := Unit) (Name := ℕ) (U := UU) (Lvl := ℕ) (Val := Elt F) cfg0.spec c : sProp 𝕄) = scratch (F := F) c := by
  unfold scratch
  rw [swap_sep (fun s t => anyOwn (F := F) c (sndM t s)), swap_sep (fun s t => anyOwn (F := F) c (rcvM t s)), scopedRest0_eq]
  simp only [whole_any, fin3_eq, sep_flat]
  rfl

theorem phi0_intro :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_rest]
  unfold Φ₀
  iintro ⟨Hs, -, Hr⟩
  isplitl [Hs] <;> iassumption

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_rest, ownSems0_eq, unscopedSems0_eq]
  unfold Φ₁
  iintro ⟨Hr, Hc, Hb⟩
  isplitl [Hb]; · iexact Hb
  isplitl [Hc] <;> iassumption

theorem lv_stage (q : DmaSem sig) (hq : ∀ k, osem k ≠ .dma q) : lv ((c : Thread nD τ), .dma q) () = 0 := by
  unfold lv
  rw [if_neg (fun h => by cases h), dif_neg (fun ⟨k, hk⟩ => hq k hk)]

theorem waits : (levAts L lv : sProp 𝕄) ⊢ Pipeline.cellsWaits cfgs (dats m ρ) () 0 c :=
  Pipeline.cellsWaits_intro cfgs (dats m ρ) () 0 c fun w s t =>
    mayWait_stage c _ (lv_stage c _ (by fin_cases w <;> fin_cases s <;> decide +kernel)) _ (by
      rcases t with ⟨_ | _, ht⟩
      · exact Or.inl rfl
      · exact Or.inr rfl)

/-! ## The run -/

def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- On eight devices, for any float values, from any memory with zero counters: every weakly fair run of the program
    ends, with each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_own m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) BI.fupd_intro s')
      isplitl [Hu] <;> iassumption)
    (hQ := fun _ h hs => ⟨fun c w => (h c).1 w, sem_eq_zero hs fun c => (h c).2.2⟩)

theorem finalA_x : finalA m ρ c (0 : Fin 3) = (s₀ m ρ).mem (win0_0.arr.view.loc (c : Thread nD τ)) :=
  (dats (F := F) m ρ 0 c).arrAt_in (0 : Fin 3) rfl _
theorem finalA_w : finalA m ρ c (1 : Fin 3) = (s₀ m ρ).mem (win0_1.arr.view.loc (c : Thread nD τ)) :=
  (dats (F := F) m ρ 0 c).arrAt_in (1 : Fin 3) rfl _

end Cert.KernelIdeal.Ring
-- ==== Proof.Frames.lean ====
/- What the run says of the arguments and the counters, for the program as printed and at the ideal values. -/
module

public import proofs.«01_k».proof.Defs
public import proofs.«01_k».proof.Proof.Gen.Kernel
public import proofs.«01_k».proof.Proof.Launch
public import Idealize.ShloMosaic.Lib.Tactic

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem args_kept {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1) :=
  ⟨(h c (0 : Fin 3)).trans (finalA_x m ρ c), (h c (1 : Fin 3)).trans (finalA_w m ρ c)⟩

theorem run_frame : θ_run Cert.KernelIdeal.defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run Cert.KernelIdeal.defs _ _).mono (fun _ h => ⟨args_kept m ρ h.1, h.2⟩) (run_main m ρ)

theorem frame_ideal : Cert.quiescent_KernelIdeal := fun m ρ _ => run_frame m ρ
theorem same_program : (∀ (m : (ℓ : Loc nD τ sig) → Buf (Elt Bits) ℓ) (ρ : Dev nD → PrngReg), True →
      θ_run (Cert.KernelIdeal.defs (F := Bits)) (onTc (τ := τ) (main (F := Bits))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0)) = Cert.quiescent_Kernel := by
  sl_kernel_rfl
theorem frame_kernel : Cert.quiescent_Kernel := same_program.mp fun m ρ _ => run_frame (F := Bits) m ρ

end Cert.KernelIdeal.Ring
-- ==== Proof.Ref.lean ====
/- The reference's run: its arguments stay, and it declares no semaphore. -/
module

public import proofs.«01_k».proof.Defs
public import proofs.«01_k».proof.Proof.Gen.ReferenceIdeal.Run
public import Idealize.ShloMosaic.Lib.Quiescent

@[expose] public section

noncomputable section

namespace Cert.Proof

open Idealize.ShloMosaic Idealize.SL.Sem

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof
-- ==== Proof.Values.lean ====
/- The contents at the ideal values, read at an index. -/
module

public import proofs.«01_k».proof.Proof.Geometry
public import Idealize.ShloMosaic.Lib.Pointwise

@[expose] public section

set_option maxRecDepth 16384

noncomputable section

namespace Cert.KernelIdeal.Ring

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## Scalars -/

theorem pay0_id (t : Fin 3) (v : FVec Ideal (SC t) .f32) : pay0 t v = v := by
  unfold pay0
  funext i
  exact congrArg v (Shape.reshapeEquiv_self _ i)
theorem sumP_at (t : Fin 3) (v : FVec Ideal (SC t) .f32) (r : FVec Ideal (SC t) .bf16) (i : (SC t).Idx) :
    sumP t v r i = (v i + r i : EReal) := rfl
theorem payA_at (t : Fin 3) (v : FVec Ideal (SC t) .f32) (r : FVec Ideal (SC t) .bf16) (i : (SC t).Idx) :
    payA t v r i = (v i + r i : EReal) := by
  unfold payA
  exact congrArg (sumP t v r) (Shape.reshapeEquiv_self _ i)
/-- The result at one element. -/
def act (z : EReal) : EReal := z * Ideal.div 1 (1 + Ideal.exp (-z))
theorem payY_at (t : Fin 3) (v : FVec Ideal (SC t) .f32) (r : FVec Ideal (SC t) .bf16) (i : (SC t).Idx) :
    payY t v r i = act (v i + r i) := by
  unfold payY act
  pointwise [sumP]
  rfl

/-! ## The product -/

/-- A device's own product at an element. -/
def prodAt (d : Dev nD) (a b : Fin 1024) : EReal :=
  ∑ k : Fin 128, (xstg m ρ d (ix2 a k) : EReal) * (wstg m ρ d (ix2 k b) : EReal)

theorem dotAt_at (d : Dev nD) (t : Fin 3) (b : Fin 2) (j : Fin 4) (i : (SC t).Idx) :
    dotAt m ρ d t b j i = prodAt m ρ d ((blkR t b j).emb i 0) ((blkR t b j).emb i 1) := by
  unfold dotAt dotB payDot prodAt
  pointwise
  refine Finset.sum_congr rfl fun k _ => congr (congrArg HMul.hMul (congrArg (xstg m ρ d) ?_)) (congrArg (wstg m ρ d) ?_)
  · funext a
    apply Fin.ext
    revert a
    refine Fin.forall_fin_two.mpr ⟨?_, ?_⟩
    · show 0 + 1 * (row t b + 1 * (i (0 : Fin 2)).val) = row t b + 1 * (i (0 : Fin 2)).val
      omega
    · show 0 + 1 * k.val = k.val
      omega
  · funext a
    apply Fin.ext
    revert a
    refine Fin.forall_fin_two.mpr ⟨?_, ?_⟩
    · show 0 + 1 * k.val = k.val
      omega
    · show 256 * j.val + 1 * (0 + 1 * (i (1 : Fin 2)).val) = 256 * j.val + 1 * (i (1 : Fin 2)).val
      omega

/-! ## The sum over the cube -/

/-- A device and those it hears from in the three exchanges of tree `t`, in order. -/
def heard (t : Fin 3) (c : Dev nD) : List (Dev nD) :=
  let q := fun n => partner (axN t n)
  [c, q 0 c, q 1 c, q 0 (q 1 c), q 2 c, q 0 (q 2 c), q 1 (q 2 c), q 0 (q 1 (q 2 c))]
theorem heard_all : ∀ (t : Fin 3) (c : Dev nD), (heard t c).Perm (List.finRange nD) := by decide +kernel
theorem sum_heard (t : Fin 3) (c : Dev nD) (f : Dev nD → EReal) : ((heard t c).map f).sum = ∑ d, f d :=
  ((heard_all t c).map f).sum_eq.trans (Fin.sum_univ_def f).symm

theorem bit_first : ∀ (t : Fin 3) (c : Dev nD), flip (bit (partner (axN t 0) c) t) = bit c t := by decide +kernel
theorem bit_second : ∀ (t : Fin 3) (c : Dev nD), bit (partner (axN t 1) c) t = bit c t := by decide +kernel
theorem bit_third : ∀ (t : Fin 3) (c : Dev nD), bit (partner (axN t 2) c) t = bit c t := by decide +kernel

variable (t : Fin 3) (j : Fin 4) (i : (SC t).Idx)

theorem keep_one (c : Dev nD) : ((state m ρ t j 1 c).1 i : EReal)
    = dotAt m ρ c t (bit c t) j i + dotAt m ρ (partner (axN t 0) c) t (bit c t) j i := by
  show payA t (dotAt m ρ c t (bit c t) j) (pay0 t (dotAt m ρ (partner (axN t 0) c) t (flip (bit (partner (axN t 0) c) t)) j)) i = _
  rw [payA_at, pay0_id, bit_first]
theorem msg_one (c : Dev nD) : ((state m ρ t j 1 c).2 i : EReal) = (state m ρ t j 1 c).1 i := by
  show pay0 t (sumP t (state m ρ t j 0 c).1 (state m ρ t j 0 (partner (axN t 0) c)).2) i
    = payA t (state m ρ t j 0 c).1 (state m ρ t j 0 (partner (axN t 0) c)).2 i
  rw [payA_at, pay0_id]
  rfl
theorem keep_two (c : Dev nD) : ((state m ρ t j 2 c).1 i : EReal)
    = (state m ρ t j 1 c).1 i + (state m ρ t j 1 (partner (axN t 1) c)).1 i := by
  show payA t (state m ρ t j 1 c).1 (state m ρ t j 1 (partner (axN t 1) c)).2 i = _
  rw [payA_at, msg_one]
theorem msg_two (c : Dev nD) : ((state m ρ t j 2 c).2 i : EReal) = (state m ρ t j 2 c).1 i := by
  show pay0 t (sumP t (state m ρ t j 1 c).1 (state m ρ t j 1 (partner (axN t 1) c)).2) i
    = payA t (state m ρ t j 1 c).1 (state m ρ t j 1 (partner (axN t 1) c)).2 i
  rw [payA_at, pay0_id]
  rfl
theorem msg_three (c : Dev nD) : ((state m ρ t j 3 c).2 i : EReal) = act (∑ d, dotAt m ρ d t (bit c t) j i) := by
  show payY t (state m ρ t j 2 c).1 (state m ρ t j 2 (partner (axN t 2) c)).2 i = _
  rw [payY_at, msg_two, keep_two, keep_two, keep_one, keep_one, keep_one, keep_one,
    bit_second, bit_second, bit_third]
  refine congrArg act (Eq.trans ?_ (sum_heard t c fun d => dotAt m ρ d t (bit c t) j i))
  simp only [heard, List.map_cons, List.map_nil, List.sum_cons, List.sum_nil, add_zero, add_assoc]

/-! ## The result -/

/-- What every device ends with, at an element. -/
def resAt (a b : Fin 1024) : EReal := act (∑ d, prodAt m ρ d a b)

theorem outPart_at (c : Dev nD) (p : Blk) (i : (SC p.1.1).Idx) :
    (outPart m ρ c p i : EReal) = resAt m ρ ((blkP p).emb i 0) ((blkP p).emb i 1) := by
  have h : ∀ c' : Dev nD, p.2 = bit c' p.1.1 →
      (state m ρ p.1.1 p.1.2 3 c').2 i = resAt m ρ ((blkP p).emb i 0) ((blkP p).emb i 1) := fun c' hc => by
    rw [msg_three, ← hc]
    exact congrArg act (Finset.sum_congr rfl fun d _ => dotAt_at m ρ d p.1.1 p.2 p.1.2 i)
  unfold outPart
  split
  next hp => exact h c hp
  next hp =>
    refine h (partner p.1.1 c) ?_
    rw [bit_partner]
    revert hp
    generalize bit c p.1.1 = x
    generalize p.2 = y
    revert x y
    decide

theorem outAt_at (c : Dev nD) (i : S1024x1024.Idx) : (outAt m ρ c i : EReal) = resAt m ρ (i 0) (i 1) := by
  obtain ⟨q, rfl⟩ := div_blk.place i
  unfold outAt
  rw [glue_emb]
  exact outPart_at m ρ c q.1 q.2

end Cert.KernelIdeal.Ring
-- ==== Proof.Algebra.lean ====
/- The claim's two sides at an element: the sum over the devices of the blocks' products, and the whole product clipped. -/
module

public import proofs.«01_k».proof.Defs
public import proofs.«01_k».proof.Proof.Gen.Pre_small_KernelIdeal
public import proofs.«01_k».proof.Proof.Gen.ReferenceIdeal.Run
public import proofs.«01_k».proof.Proof.Values
public import Idealize.ShloMosaic.Lib.ReduceAll

@[expose] public section

set_option maxRecDepth 16384

noncomputable section

namespace Cert.KernelIdeal.Ring

open Idealize.ShloMosaic Idealize.ShloMosaic.TcCoe Idealize.SL.Sem
open Cert.KernelIdeal Cert.KernelIdeal.Gen

/-! ## Scalars -/

theorem bits_bound : Ideal.ofBits .f32 0x40F00000#32 = ((7.5 : ℝ) : EReal) := by
  simp [Ideal.ofBits, Ideal.ieee, -EReal.coe_mul, -EReal.coe_neg]; norm_num
theorem bits_high : Ideal.ofBits .f32 0x42700000#32 = ((60 : ℝ) : EReal) := by
  simp [Ideal.ofBits, Ideal.ieee, -EReal.coe_mul, -EReal.coe_neg]; norm_num
theorem bits_low : Ideal.ofBits .f32 0xC2700000#32 = ((-60 : ℝ) : EReal) := by
  simp [Ideal.ofBits, Ideal.ieee, -EReal.coe_mul, -EReal.coe_neg]; norm_num

theorem exp_nonneg (z : EReal) : 0 ≤ Ideal.exp z := by
  induction z with
  | bot => exact le_refl _
  | top => exact le_top
  | coe r => exact EReal.coe_nonneg.mpr (Real.exp_pos r).le

theorem act_eq (z : EReal) : act z = Ideal.div z (1 + Ideal.exp (-z)) := by
  have h : (1 + Ideal.exp (-z) : EReal) ≠ 0 := by
    have : (0 : EReal) < 1 + Ideal.exp (-z) := lt_of_lt_of_le zero_lt_one (le_add_of_nonneg_right (exp_nonneg _))
    exact this.ne'
  unfold act Ideal.div
  rw [if_neg h, if_neg h, one_mul]

/-- A sum over the devices of terms of size at most 7.5 is its own clip at 60. -/
theorem clip_sum (p : Fin 8 → EReal) (h : ∀ d, max (p d) (-(p d)) ≤ ((7.5 : ℝ) : EReal)) :
    min ((60 : ℝ) : EReal) (max ((-60 : ℝ) : EReal) (∑ d, p d)) = ∑ d, p d := by
  have hs : ∀ r : ℝ, (∑ _d : Fin 8, (r : EReal)) = ((8 * r : ℝ) : EReal) := fun r => by
    rw [Fin.sum_univ_eight]; norm_cast; ring
  have hi : ∑ d, p d ≤ ((60 : ℝ) : EReal) := by
    refine (Finset.sum_le_sum fun d _ => (le_max_left _ _).trans (h d)).trans (le_of_eq ?_)
    rw [hs]; norm_num
  have lo : ((-60 : ℝ) : EReal) ≤ ∑ d, p d := by
    refine le_trans (le_of_eq ?_) (Finset.sum_le_sum (f := fun _ => ((-7.5 : ℝ) : EReal)) fun d _ => ?_)
    · rw [hs]; norm_num
    · have := EReal.neg_le_neg_iff.mpr ((le_max_right _ _).trans (h d))
      rw [neg_neg] at this
      exact le_trans (le_of_eq (by norm_cast)) this
  rw [max_eq_right lo, min_eq_right hi]

/-! ## The whole product -/

variable (x w : (⟨2, ![1024, 1024]⟩ : Shape).Idx → EReal)

/-- The whole product at an element. -/
def wholeAt (a b : Fin 1024) : EReal := ∑ k : Fin 1024, x (ix2 a k) * w (ix2 k b)
/-- The product of one device's blocks at an element. -/
def partAt (d : Fin 8) (a b : Fin 1024) : EReal :=
  ∑ k : Fin 128, Layout.block ⟨2, ![1024, 128]⟩ ⟨2, ![1024, 1024]⟩ 1 8 d x (by decide) (ix2 a k)
    * Layout.block ⟨2, ![128, 1024]⟩ ⟨2, ![1024, 1024]⟩ 0 8 d w (by decide) (ix2 k b)

theorem sum_parts (a b : Fin 1024) : ∑ d, partAt x w d a b = wholeAt x w a b := by
  unfold partAt wholeAt
  rw [← Equiv.sum_comp (finProdFinEquiv (m := 8) (n := 128)) fun k : Fin 1024 => x (ix2 a k) * w (ix2 k b), Fintype.sum_prod_type]
  refine Finset.sum_congr rfl fun d _ => Finset.sum_congr rfl fun k _ => congr (congrArg HMul.hMul (congrArg x ?_)) (congrArg w ?_)
  · funext e
    apply Fin.ext
    revert e
    refine Fin.forall_fin_two.mpr ⟨rfl, ?_⟩
    show d.val * 128 + k.val = k.val + 128 * d.val
    omega
  · funext e
    apply Fin.ext
    revert e
    refine Fin.forall_fin_two.mpr ⟨?_, rfl⟩
    show d.val * 128 + k.val = k.val + 128 * d.val
    omega

open Cert.ReferenceIdeal Cert.ReferenceIdeal.Gen in
/-- The reference's result. -/
def refVal (x w : FVec Ideal Cert.ReferenceIdeal.S1024x1024 .bf16) : FVec Ideal Cert.ReferenceIdeal.S1024x1024 .bf16 :=
  have y := Host.dotGeneral dot_S1024x1024_S1024x1024_S1024x1024_1_0_0_1_n_n none x w
  have all := fun v : FVec Ideal Cert.ReferenceIdeal.S_ .f32 => broadcastInDim Cert.ReferenceIdeal.S1024x1024 ![] bcast_S_S1024x1024 v
  truncf .bf16 (Host.divf y (addf (all (constant Cert.ReferenceIdeal.S_ .f32 0x3F800000#32)) (Host.exp (Host.negf
    (minimumf (all (id (constant Cert.ReferenceIdeal.S_ .f32 0x42700000#32)))
      (maximumf (all (id (constant Cert.ReferenceIdeal.S_ .f32 0xC2700000#32))) y)))))) Cert.ReferenceIdeal.Gen.bitsLt_bf16_f32

theorem refVal_at (i : (⟨2, ![1024, 1024]⟩ : Shape).Idx) : (refVal x w i : EReal)
    = Ideal.div (wholeAt x w (i 0) (i 1))
        (1 + Ideal.exp (-(min ((60 : ℝ) : EReal) (max ((-60 : ℝ) : EReal) (wholeAt x w (i 0) (i 1)))))) := by
  unfold refVal
  pointwise [id]
  rw [bits_high, bits_low]
  rfl

/-! ## The precondition -/

theorem small_at (x : FVec Ideal Cert.Pre_small_KernelIdeal.S1024x128 .bf16) (w : FVec Ideal Cert.Pre_small_KernelIdeal.S128x1024 .bf16)
    (h : Cert.Pre_small_KernelIdeal.fn (F := Ideal) x w = fun _ => 1#1) (a b : Fin 1024) :
    (max (∑ k : Fin 128, (x (ix2 a k) : EReal) * w (ix2 k b)) (-(∑ k : Fin 128, (x (ix2 a k) : EReal) * w (ix2 k b))) : EReal)
      ≤ ((7.5 : ℝ) : EReal) := by
  unfold Cert.Pre_small_KernelIdeal.fn at h
  have h1 := Host.reduce_andi_eq_one _ _ _ _ _ (congrFun h fun a => a.elim0) (ix2 a b) (funext fun a => a.elim0)
  pointwise at h1
  rw [bits_bound] at h1
  by_contra hn
  exact absurd (h1.symm.trans (congrArg BitVec.ofBool (decide_eq_false hn))) (by decide)

end Cert.KernelIdeal.Ring
-- ==== Proof.Agree.lean ====
/- The kernel's result on every device is the reference's. -/
module

public import proofs.«01_k».proof.Defs
public import proofs.«01_k».proof.Proof.Frames
public import proofs.«01_k».proof.Proof.Algebra

@[expose] public section

set_option maxRecDepth 16384

noncomputable section

namespace Cert.KernelIdeal.Ring

open Idealize.ShloMosaic Idealize.ShloMosaic.TcCoe Idealize.SL.Sem
open Idealize.ShloMosaic.Pipeline
open Cert.KernelIdeal Cert.KernelIdeal.Gen

variable {F : FTy → Type} [FloatOps F]
variable (m : (ℓ : Loc nD τ sig) → Buf (Elt F) ℓ) (ρ : Dev nD → PrngReg) (c : Dev nD)

/-! ## Whole windows -/

/-- The staged left operand is the device's argument. -/
theorem xstg_eq : xstg m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
/-- The staged right operand is the device's argument. -/
theorem wstg_eq : wstg m ρ c = m ((c.tc : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- The result array ends as the value that the device's run leaves in its result window. -/
theorem finalA_out : finalA m ρ c (2 : Fin 3) = outAt m ρ c := by
  have hz : (fun a => (win0_2.index (0 : Fin 1)) a * main_v1.ty.shape.size a) = fun _ => 0 :=
    funext fun a => by fin_cases a <;> decide
  refine (Memref.read_access_unit_zero (Elt F) main_v1 hz (fun a => by fin_cases a <;> decide) _).symm.trans ?_
  unfold finalA
  rw [show cfg0.N = ((0 : Fin 1) : Fin cfg0.N).val + 1 from rfl, (dats m ρ 0 c).arrAt_succ (2 : Fin 3) (0 : Fin 1),
    if_pos (show (cfg0.win (2 : Fin 3)).flush (0 : Fin 1) = true by decide)]
  exact View.read_write_univ _ _

end Cert.KernelIdeal.Ring

namespace Cert.KernelIdeal.Ring

open Idealize.ShloMosaic Idealize.ShloMosaic.TcCoe Idealize.SL.Sem

/-- Over the extended reals, where no device's partial product exceeds 7.5 in size, every device ends with the whole
reference result, and the arguments of both programs are kept. -/
theorem algebraic : Cert.algebraic_KernelIdeal_ReferenceIdeal_pre_small_KernelIdeal := by
  intro m g m' g' hpre hagree
  let x := m' (((0 : Dev Cert.ReferenceIdeal.nD).tc : Thread Cert.ReferenceIdeal.nD Cert.ReferenceIdeal.τ).loc Cert.ReferenceIdeal.main_arg0)
  let w := m' (((0 : Dev Cert.ReferenceIdeal.nD).tc : Thread Cert.ReferenceIdeal.nD Cert.ReferenceIdeal.τ).loc Cert.ReferenceIdeal.main_arg1)
  have hprod : ∀ (d : Fin 8) (a b : Fin 1024), prodAt m g d a b = partAt x w d a b := fun d a b => by
    unfold prodAt partAt
    rw [xstg_eq, wstg_eq, (hagree d).1, (hagree d).2]
  have hsmall : ∀ (d : Fin 8) (a b : Fin 1024), max (partAt x w d a b) (-(partAt x w d a b)) ≤ ((7.5 : ℝ) : EReal) := fun d a b => by
    have h := small_at _ _ (hpre d) a b
    rw [(hagree d).1, (hagree d).2] at h
    exact h
  have hpt : ∀ (_ : Dev nD) (a b : Fin 1024), resAt m g a b
      = Ideal.div (wholeAt x w a b) (1 + Ideal.exp (-(min ((60 : ℝ) : EReal) (max ((-60 : ℝ) : EReal) (wholeAt x w a b))))) := fun _ a b => by
    unfold resAt
    rw [Finset.sum_congr rfl fun d _ => hprod d a b, act_eq, ← sum_parts x w a b,
      clip_sum (fun d => partAt x w d a b) fun d => hsmall d a b]
  have hval : ∀ c, outAt m g c = refVal x w := fun c => funext fun i => by
    exact (outAt_at m g c i).trans ((hpt c (i 0) (i 1)).trans (refVal_at x w i).symm)
  exact ⟨refVal x w,
    (θ_run Cert.KernelIdeal.defs _ _).mono (fun _ h c => ⟨(h.1 c (2 : Fin 3)).trans ((finalA_out m g c).trans (hval c)), args_kept m g h.1 c⟩)
      (run_main m g),
    (θ_run Cert.ReferenceIdeal.defs _ _).mono (fun _ h => h 0) (Cert.ReferenceIdeal.Value.run (F := Ideal) m' g')⟩

end Cert.KernelIdeal.Ring
-- ==== Proof.lean ====
/- The claim, put together from the runs of the three programs. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_small_KernelIdeal
public import proofs.«01_k».proof.Proof.Gen.Pre_small_ReferenceIdeal
public import proofs.«01_k».proof.Proof.Frames
public import proofs.«01_k».proof.Proof.Ref
public import proofs.«01_k».proof.Proof.Algebra
public import proofs.«01_k».proof.Proof.Agree

@[expose] public section

noncomputable section

namespace Cert.Proof

theorem claim : Cert.Claim := ⟨Cert.Kernel.Gen.facts, Cert.KernelIdeal.Gen.facts, Cert.ReferenceIdeal.Gen.facts,
  Cert.Pre_small_KernelIdeal.Gen.facts, Cert.Pre_small_ReferenceIdeal.Gen.facts,
  Cert.KernelIdeal.Ring.frame_kernel, Cert.KernelIdeal.Ring.frame_ideal,
  fun m g _ => Cert.KernelIdeal.Ring.frame_ideal m g trivial, frame_reference,
  fun m g _ => frame_reference m g trivial, trivial, Cert.KernelIdeal.Ring.algebraic⟩

end Cert.Proof

end
